-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = Layout.block ⟨3, ![2, 128, 256]⟩ ⟨3, ![32, 128, 256]⟩ 0 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![16, 256]⟩ ⟨2, ![256, 256]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v36) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S256x128 : Shape := ⟨2, ![256, 128]⟩
abbrev S128x32 : Shape := ⟨2, ![128, 32]⟩
abbrev S256x1 : Shape := ⟨2, ![256, 1]⟩
abbrev S2x128x256 : Shape := ⟨3, ![2, 128, 256]⟩
abbrev S128x256 : Shape := ⟨2, ![128, 256]⟩
abbrev S16x256 : Shape := ⟨2, ![16, 256]⟩
abbrev S16x16x256 : Shape := ⟨3, ![16, 16, 256]⟩
abbrev S16 : Shape := ⟨1, ![16]⟩
abbrev S_ : Shape := ⟨0, ![]⟩
abbrev S256x32 : Shape := ⟨2, ![256, 32]⟩
abbrev S256 : Shape := ⟨1, ![256]⟩
abbrev S1x128x256 : Shape := ⟨3, ![1, 128, 256]⟩
abbrev S256x256 : Shape := ⟨2, ![256, 256]⟩
abbrev S1 : Shape := ⟨1, ![1]⟩
abbrev S1x16x256 : Shape := ⟨3, ![1, 16, 256]⟩
abbrev S16x128 : Shape := ⟨2, ![16, 128]⟩

abbrev nBuf : Space → Nat
  | .hbm => 6
  | .vmem => 8
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S2x128x256, .bf16⟩
  | .hbm, ⟨4, _⟩ => ⟨S128x256, .bf16⟩
  | .hbm, ⟨5, _⟩ => ⟨S16x256, .f32⟩
  | .local _ .vmem, ⟨0, _⟩ => ⟨S256x128, .bf16⟩
  | .local _ .vmem, ⟨1, _⟩ => ⟨S128x32, .bf16⟩
  | .local _ .vmem, ⟨2, _⟩ => ⟨S256x1, .i32⟩
  | .local _ .vmem, ⟨3, _⟩ => ⟨S2x128x256, .bf16⟩
  | .local _ .vmem, ⟨4, _⟩ => ⟨S128x256, .bf16⟩
  | .local _ .vmem, ⟨5, _⟩ => ⟨S16x256, .f32⟩
  | .local _ .vmem, ⟨6, _⟩ => ⟨S16x16x256, .bf16⟩
  | .local _ .vmem, ⟨7, _⟩ => ⟨S16x16x256, .bf16⟩
  | _, _ => ⟨S256x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 1 38 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k0_dev1 : Nat :=
  let c0_i32_282 : BitVec 32 := 0#32
  let c0_i32_280 : BitVec 32 := 0#32
  let c1_i32_281 : BitVec 32 := 1#32
  let v267 : BitVec 32 := Scalar.muli c0_i32_280 c1_i32_281
  let v268 : BitVec 32 := Scalar.addi c0_i32_282 v267
  v268.toNat
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k0_dev2 : Nat :=
  let c0_i32_282 : BitVec 32 := 0#32
  let c1_i32_280 : BitVec 32 := 1#32
  let c1_i32_281 : BitVec 32 := 1#32
  let v267 : BitVec 32 := Scalar.muli c1_i32_280 c1_i32_281
  let v268 : BitVec 32 := Scalar.addi c0_i32_282 v267
  v268.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k0_dev3 : Nat :=
  let c0_i32_282 : BitVec 32 := 0#32
  let c2_i32_280 : BitVec 32 := 2#32
  let c1_i32_281 : BitVec 32 := 1#32
  let v267 : BitVec 32 := Scalar.muli c2_i32_280 c1_i32_281
  let v268 : BitVec 32 := Scalar.addi c0_i32_282 v267
  v268.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k0_dev4 : Nat :=
  let c0_i32_282 : BitVec 32 := 0#32
  let c3_i32_280 : BitVec 32 := 3#32
  let c1_i32_281 : BitVec 32 := 1#32
  let v267 : BitVec 32 := Scalar.muli c3_i32_280 c1_i32_281
  let v268 : BitVec 32 := Scalar.addi c0_i32_282 v267
  v268.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k0_dev5 : Nat :=
  let c0_i32_282 : BitVec 32 := 0#32
  let c4_i32_280 : BitVec 32 := 4#32
  let c1_i32_281 : BitVec 32 := 1#32
  let v267 : BitVec 32 := Scalar.muli c4_i32_280 c1_i32_281
  let v268 : BitVec 32 := Scalar.addi c0_i32_282 v267
  v268.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k0_dev6 : Nat :=
  let c0_i32_282 : BitVec 32 := 0#32
  let c5_i32_280 : BitVec 32 := 5#32
  let c1_i32_281 : BitVec 32 := 1#32
  let v267 : BitVec 32 := Scalar.muli c5_i32_280 c1_i32_281
  let v268 : BitVec 32 := Scalar.addi c0_i32_282 v267
  v268.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k0_dev7 : Nat :=
  let c0_i32_282 : BitVec 32 := 0#32
  let c6_i32_280 : BitVec 32 := 6#32
  let c1_i32_281 : BitVec 32 := 1#32
  let v267 : BitVec 32 := Scalar.muli c6_i32_280 c1_i32_281
  let v268 : BitVec 32 := Scalar.addi c0_i32_282 v267
  v268.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k0_dev8 : Nat :=
  let c0_i32_282 : BitVec 32 := 0#32
  let c7_i32_280 : BitVec 32 := 7#32
  let c1_i32_281 : BitVec 32 := 1#32
  let v267 : BitVec 32 := Scalar.muli c7_i32_280 c1_i32_281
  let v268 : BitVec 32 := Scalar.addi c0_i32_282 v267
  v268.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v28 : BitVec 1 := Scalar.cmpi .ne v2 c8_i32
  let v29 : BitVec 32 := Scalar.extui v28
  let c0_i32_9 : BitVec 32 := 0#32
  let v30 : BitVec 1 := Scalar.cmpi .ne v29 c0_i32_9
  v30

def k0_dev9 : Nat :=
  let c0_i32_282 : BitVec 32 := 0#32
  let c8_i32_280 : BitVec 32 := 8#32
  let c1_i32_281 : BitVec 32 := 1#32
  let v267 : BitVec 32 := Scalar.muli c8_i32_280 c1_i32_281
  let v268 : BitVec 32 := Scalar.addi c0_i32_282 v267
  v268.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v31 : BitVec 1 := Scalar.cmpi .ne v2 c9_i32
  let v32 : BitVec 32 := Scalar.extui v31
  let c0_i32_10 : BitVec 32 := 0#32
  let v33 : BitVec 1 := Scalar.cmpi .ne v32 c0_i32_10
  v33

def k0_dev10 : Nat :=
  let c0_i32_282 : BitVec 32 := 0#32
  let c9_i32_280 : BitVec 32 := 9#32
  let c1_i32_281 : BitVec 32 := 1#32
  let v267 : BitVec 32 := Scalar.muli c9_i32_280 c1_i32_281
  let v268 : BitVec 32 := Scalar.addi c0_i32_282 v267
  v268.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v34 : BitVec 1 := Scalar.cmpi .ne v2 c10_i32
  let v35 : BitVec 32 := Scalar.extui v34
  let c0_i32_11 : BitVec 32 := 0#32
  let v36 : BitVec 1 := Scalar.cmpi .ne v35 c0_i32_11
  v36

def k0_dev11 : Nat :=
  let c0_i32_282 : BitVec 32 := 0#32
  let c10_i32_280 : BitVec 32 := 10#32
  let c1_i32_281 : BitVec 32 := 1#32
  let v267 : BitVec 32 := Scalar.muli c10_i32_280 c1_i32_281
  let v268 : BitVec 32 := Scalar.addi c0_i32_282 v267
  v268.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v37 : BitVec 1 := Scalar.cmpi .ne v2 c11_i32
  let v38 : BitVec 32 := Scalar.extui v37
  let c0_i32_12 : BitVec 32 := 0#32
  let v39 : BitVec 1 := Scalar.cmpi .ne v38 c0_i32_12
  v39

def k0_dev12 : Nat :=
  let c0_i32_282 : BitVec 32 := 0#32
  let c11_i32_280 : BitVec 32 := 11#32
  let c1_i32_281 : BitVec 32 := 1#32
  let v267 : BitVec 32 := Scalar.muli c11_i32_280 c1_i32_281
  let v268 : BitVec 32 := Scalar.addi c0_i32_282 v267
  v268.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v40 : BitVec 1 := Scalar.cmpi .ne v2 c12_i32
  let v41 : BitVec 32 := Scalar.extui v40
  let c0_i32_13 : BitVec 32 := 0#32
  let v42 : BitVec 1 := Scalar.cmpi .ne v41 c0_i32_13
  v42

def k0_dev13 : Nat :=
  let c0_i32_282 : BitVec 32 := 0#32
  let c12_i32_280 : BitVec 32 := 12#32
  let c1_i32_281 : BitVec 32 := 1#32
  let v267 : BitVec 32 := Scalar.muli c12_i32_280 c1_i32_281
  let v268 : BitVec 32 := Scalar.addi c0_i32_282 v267
  v268.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v43 : BitVec 1 := Scalar.cmpi .ne v2 c13_i32
  let v44 : BitVec 32 := Scalar.extui v43
  let c0_i32_14 : BitVec 32 := 0#32
  let v45 : BitVec 1 := Scalar.cmpi .ne v44 c0_i32_14
  v45

def k0_dev14 : Nat :=
  let c0_i32_282 : BitVec 32 := 0#32
  let c13_i32_280 : BitVec 32 := 13#32
  let c1_i32_281 : BitVec 32 := 1#32
  let v267 : BitVec 32 := Scalar.muli c13_i32_280 c1_i32_281
  let v268 : BitVec 32 := Scalar.addi c0_i32_282 v267
  v268.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v46 : BitVec 1 := Scalar.cmpi .ne v2 c14_i32
  let v47 : BitVec 32 := Scalar.extui v46
  let c0_i32_15 : BitVec 32 := 0#32
  let v48 : BitVec 1 := Scalar.cmpi .ne v47 c0_i32_15
  v48

def k0_dev15 : Nat :=
  let c0_i32_282 : BitVec 32 := 0#32
  let c14_i32_280 : BitVec 32 := 14#32
  let c1_i32_281 : BitVec 32 := 1#32
  let v267 : BitVec 32 := Scalar.muli c14_i32_280 c1_i32_281
  let v268 : BitVec 32 := Scalar.addi c0_i32_282 v267
  v268.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v49 : BitVec 1 := Scalar.cmpi .ne v2 c15_i32
  let v50 : BitVec 32 := Scalar.extui v49
  let c0_i32_16 : BitVec 32 := 0#32
  let v51 : BitVec 1 := Scalar.cmpi .ne v50 c0_i32_16
  v51

def k0_dev16 : Nat :=
  let c0_i32_282 : BitVec 32 := 0#32
  let c15_i32_280 : BitVec 32 := 15#32
  let c1_i32_281 : BitVec 32 := 1#32
  let v267 : BitVec 32 := Scalar.muli c15_i32_280 c1_i32_281
  let v268 : BitVec 32 := Scalar.addi c0_i32_282 v267
  v268.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_40 : BitVec 32 := 0#32
  let v104 : BitVec 1 := Scalar.cmpi .ne v2 c0_i32_40
  let v105 : BitVec 32 := Scalar.extui v104
  let c0_i32_43 : BitVec 32 := 0#32
  let v106 : BitVec 1 := Scalar.cmpi .ne v105 c0_i32_43
  v106

def k0_off1 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev17 : Nat :=
  let c0_i32_281 : BitVec 32 := 0#32
  let c0_i32_279 : BitVec 32 := 0#32
  let c1_i32_280 : BitVec 32 := 1#32
  let v267 : BitVec 32 := Scalar.muli c0_i32_279 c1_i32_280
  let v268 : BitVec 32 := Scalar.addi c0_i32_281 v267
  v268.toNat
def k0_cond18 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_44 : BitVec 32 := 1#32
  let v107 : BitVec 1 := Scalar.cmpi .ne v2 c1_i32_44
  let v108 : BitVec 32 := Scalar.extui v107
  let c0_i32_47 : BitVec 32 := 0#32
  let v109 : BitVec 1 := Scalar.cmpi .ne v108 c0_i32_47
  v109

def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev18 : Nat :=
  let c0_i32_281 : BitVec 32 := 0#32
  let c1_i32_279 : BitVec 32 := 1#32
  let c1_i32_280 : BitVec 32 := 1#32
  let v267 : BitVec 32 := Scalar.muli c1_i32_279 c1_i32_280
  let v268 : BitVec 32 := Scalar.addi c0_i32_281 v267
  v268.toNat
def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_48 : BitVec 32 := 2#32
  let v110 : BitVec 1 := Scalar.cmpi .ne v2 c2_i32_48
  let v111 : BitVec 32 := Scalar.extui v110
  let c0_i32_51 : BitVec 32 := 0#32
  let v112 : BitVec 1 := Scalar.cmpi .ne v111 c0_i32_51
  v112

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off6 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev19 : Nat :=
  let c0_i32_281 : BitVec 32 := 0#32
  let c2_i32_279 : BitVec 32 := 2#32
  let c1_i32_280 : BitVec 32 := 1#32
  let v267 : BitVec 32 := Scalar.muli c2_i32_279 c1_i32_280
  let v268 : BitVec 32 := Scalar.addi c0_i32_281 v267
  v268.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_52 : BitVec 32 := 3#32
  let v113 : BitVec 1 := Scalar.cmpi .ne v2 c3_i32_52
  let v114 : BitVec 32 := Scalar.extui v113
  let c0_i32_55 : BitVec 32 := 0#32
  let v115 : BitVec 1 := Scalar.cmpi .ne v114 c0_i32_55
  v115

def k0_off7 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off8 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev20 : Nat :=
  let c0_i32_281 : BitVec 32 := 0#32
  let c3_i32_279 : BitVec 32 := 3#32
  let c1_i32_280 : BitVec 32 := 1#32
  let v267 : BitVec 32 := Scalar.muli c3_i32_279 c1_i32_280
  let v268 : BitVec 32 := Scalar.addi c0_i32_281 v267
  v268.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_56 : BitVec 32 := 4#32
  let v116 : BitVec 1 := Scalar.cmpi .ne v2 c4_i32_56
  let v117 : BitVec 32 := Scalar.extui v116
  let c0_i32_59 : BitVec 32 := 0#32
  let v118 : BitVec 1 := Scalar.cmpi .ne v117 c0_i32_59
  v118

def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev21 : Nat :=
  let c0_i32_281 : BitVec 32 := 0#32
  let c4_i32_279 : BitVec 32 := 4#32
  let c1_i32_280 : BitVec 32 := 1#32
  let v267 : BitVec 32 := Scalar.muli c4_i32_279 c1_i32_280
  let v268 : BitVec 32 := Scalar.addi c0_i32_281 v267
  v268.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_60 : BitVec 32 := 5#32
  let v119 : BitVec 1 := Scalar.cmpi .ne v2 c5_i32_60
  let v120 : BitVec 32 := Scalar.extui v119
  let c0_i32_63 : BitVec 32 := 0#32
  let v121 : BitVec 1 := Scalar.cmpi .ne v120 c0_i32_63
  v121

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off12 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev22 : Nat :=
  let c0_i32_281 : BitVec 32 := 0#32
  let c5_i32_279 : BitVec 32 := 5#32
  let c1_i32_280 : BitVec 32 := 1#32
  let v267 : BitVec 32 := Scalar.muli c5_i32_279 c1_i32_280
  let v268 : BitVec 32 := Scalar.addi c0_i32_281 v267
  v268.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_64 : BitVec 32 := 6#32
  let v122 : BitVec 1 := Scalar.cmpi .ne v2 c6_i32_64
  let v123 : BitVec 32 := Scalar.extui v122
  let c0_i32_67 : BitVec 32 := 0#32
  let v124 : BitVec 1 := Scalar.cmpi .ne v123 c0_i32_67
  v124

def k0_off13 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off14 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev23 : Nat :=
  let c0_i32_281 : BitVec 32 := 0#32
  let c6_i32_279 : BitVec 32 := 6#32
  let c1_i32_280 : BitVec 32 := 1#32
  let v267 : BitVec 32 := Scalar.muli c6_i32_279 c1_i32_280
  let v268 : BitVec 32 := Scalar.addi c0_i32_281 v267
  v268.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_68 : BitVec 32 := 7#32
  let v125 : BitVec 1 := Scalar.cmpi .ne v2 c7_i32_68
  let v126 : BitVec 32 := Scalar.extui v125
  let c0_i32_71 : BitVec 32 := 0#32
  let v127 : BitVec 1 := Scalar.cmpi .ne v126 c0_i32_71
  v127

def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev24 : Nat :=
  let c0_i32_281 : BitVec 32 := 0#32
  let c7_i32_279 : BitVec 32 := 7#32
  let c1_i32_280 : BitVec 32 := 1#32
  let v267 : BitVec 32 := Scalar.muli c7_i32_279 c1_i32_280
  let v268 : BitVec 32 := Scalar.addi c0_i32_281 v267
  v268.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_72 : BitVec 32 := 8#32
  let v128 : BitVec 1 := Scalar.cmpi .ne v2 c8_i32_72
  let v129 : BitVec 32 := Scalar.extui v128
  let c0_i32_75 : BitVec 32 := 0#32
  let v130 : BitVec 1 := Scalar.cmpi .ne v129 c0_i32_75
  v130

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off18 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev25 : Nat :=
  let c0_i32_281 : BitVec 32 := 0#32
  let c8_i32_279 : BitVec 32 := 8#32
  let c1_i32_280 : BitVec 32 := 1#32
  let v267 : BitVec 32 := Scalar.muli c8_i32_279 c1_i32_280
  let v268 : BitVec 32 := Scalar.addi c0_i32_281 v267
  v268.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_76 : BitVec 32 := 9#32
  let v131 : BitVec 1 := Scalar.cmpi .ne v2 c9_i32_76
  let v132 : BitVec 32 := Scalar.extui v131
  let c0_i32_79 : BitVec 32 := 0#32
  let v133 : BitVec 1 := Scalar.cmpi .ne v132 c0_i32_79
  v133

def k0_off19 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off20 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev26 : Nat :=
  let c0_i32_281 : BitVec 32 := 0#32
  let c9_i32_279 : BitVec 32 := 9#32
  let c1_i32_280 : BitVec 32 := 1#32
  let v267 : BitVec 32 := Scalar.muli c9_i32_279 c1_i32_280
  let v268 : BitVec 32 := Scalar.addi c0_i32_281 v267
  v268.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_80 : BitVec 32 := 10#32
  let v134 : BitVec 1 := Scalar.cmpi .ne v2 c10_i32_80
  let v135 : BitVec 32 := Scalar.extui v134
  let c0_i32_83 : BitVec 32 := 0#32
  let v136 : BitVec 1 := Scalar.cmpi .ne v135 c0_i32_83
  v136

def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev27 : Nat :=
  let c0_i32_281 : BitVec 32 := 0#32
  let c10_i32_279 : BitVec 32 := 10#32
  let c1_i32_280 : BitVec 32 := 1#32
  let v267 : BitVec 32 := Scalar.muli c10_i32_279 c1_i32_280
  let v268 : BitVec 32 := Scalar.addi c0_i32_281 v267
  v268.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_84 : BitVec 32 := 11#32
  let v137 : BitVec 1 := Scalar.cmpi .ne v2 c11_i32_84
  let v138 : BitVec 32 := Scalar.extui v137
  let c0_i32_87 : BitVec 32 := 0#32
  let v139 : BitVec 1 := Scalar.cmpi .ne v138 c0_i32_87
  v139

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off24 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev28 : Nat :=
  let c0_i32_281 : BitVec 32 := 0#32
  let c11_i32_279 : BitVec 32 := 11#32
  let c1_i32_280 : BitVec 32 := 1#32
  let v267 : BitVec 32 := Scalar.muli c11_i32_279 c1_i32_280
  let v268 : BitVec 32 := Scalar.addi c0_i32_281 v267
  v268.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_88 : BitVec 32 := 12#32
  let v140 : BitVec 1 := Scalar.cmpi .ne v2 c12_i32_88
  let v141 : BitVec 32 := Scalar.extui v140
  let c0_i32_91 : BitVec 32 := 0#32
  let v142 : BitVec 1 := Scalar.cmpi .ne v141 c0_i32_91
  v142

def k0_off25 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off26 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev29 : Nat :=
  let c0_i32_281 : BitVec 32 := 0#32
  let c12_i32_279 : BitVec 32 := 12#32
  let c1_i32_280 : BitVec 32 := 1#32
  let v267 : BitVec 32 := Scalar.muli c12_i32_279 c1_i32_280
  let v268 : BitVec 32 := Scalar.addi c0_i32_281 v267
  v268.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_92 : BitVec 32 := 13#32
  let v143 : BitVec 1 := Scalar.cmpi .ne v2 c13_i32_92
  let v144 : BitVec 32 := Scalar.extui v143
  let c0_i32_95 : BitVec 32 := 0#32
  let v145 : BitVec 1 := Scalar.cmpi .ne v144 c0_i32_95
  v145

def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev30 : Nat :=
  let c0_i32_281 : BitVec 32 := 0#32
  let c13_i32_279 : BitVec 32 := 13#32
  let c1_i32_280 : BitVec 32 := 1#32
  let v267 : BitVec 32 := Scalar.muli c13_i32_279 c1_i32_280
  let v268 : BitVec 32 := Scalar.addi c0_i32_281 v267
  v268.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_96 : BitVec 32 := 14#32
  let v146 : BitVec 1 := Scalar.cmpi .ne v2 c14_i32_96
  let v147 : BitVec 32 := Scalar.extui v146
  let c0_i32_99 : BitVec 32 := 0#32
  let v148 : BitVec 1 := Scalar.cmpi .ne v147 c0_i32_99
  v148

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off30 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev31 : Nat :=
  let c0_i32_281 : BitVec 32 := 0#32
  let c14_i32_279 : BitVec 32 := 14#32
  let c1_i32_280 : BitVec 32 := 1#32
  let v267 : BitVec 32 := Scalar.muli c14_i32_279 c1_i32_280
  let v268 : BitVec 32 := Scalar.addi c0_i32_281 v267
  v268.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_100 : BitVec 32 := 15#32
  let v149 : BitVec 1 := Scalar.cmpi .ne v2 c15_i32_100
  let v150 : BitVec 32 := Scalar.extui v149
  let c0_i32_103 : BitVec 32 := 0#32
  let v151 : BitVec 1 := Scalar.cmpi .ne v150 c0_i32_103
  v151

def k0_off31 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off32 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_282 : BitVec 32 := 0#32
  let c0_i32_283 : BitVec 32 := 0#32
  ![v2.toNat, 0, 0]
def k0_dev32 : Nat :=
  let c0_i32_281 : BitVec 32 := 0#32
  let c15_i32_279 : BitVec 32 := 15#32
  let c1_i32_280 : BitVec 32 := 1#32
  let v267 : BitVec 32 := Scalar.muli c15_i32_279 c1_i32_280
  let v268 : BitVec 32 := Scalar.addi c0_i32_281 v267
  v268.toNat
def k0_off33 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v152 : Index := Scalar.indexCast v2
  let c0_104 : Index := 0#32
  let c0_105 : Index := 0#32
  ![v152.toNat, 0, 0]
def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_108 : BitVec 32 := 16#32
  let v159 : BitVec 32 := Scalar.muli v2 c16_i32_108
  let v160 : Index := Scalar.indexCast v159
  let c0_109 : Index := 0#32
  ![v160.toNat, 0]
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_215 : BitVec 32 := 0#32
  let v219 : BitVec 1 := Scalar.cmpi .ne v2 c0_i32_215
  let v220 : BitVec 32 := Scalar.extui v219
  let c0_i32_218 : BitVec 32 := 0#32
  let v221 : BitVec 1 := Scalar.cmpi .ne v220 c0_i32_218
  v221

def k0_off35 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_219 : BitVec 32 := 1#32
  let v222 : BitVec 1 := Scalar.cmpi .ne v2 c1_i32_219
  let v223 : BitVec 32 := Scalar.extui v222
  let c0_i32_222 : BitVec 32 := 0#32
  let v224 : BitVec 1 := Scalar.cmpi .ne v223 c0_i32_222
  v224

def k0_off36 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_223 : BitVec 32 := 2#32
  let v225 : BitVec 1 := Scalar.cmpi .ne v2 c2_i32_223
  let v226 : BitVec 32 := Scalar.extui v225
  let c0_i32_226 : BitVec 32 := 0#32
  let v227 : BitVec 1 := Scalar.cmpi .ne v226 c0_i32_226
  v227

def k0_off37 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond52 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_227 : BitVec 32 := 3#32
  let v228 : BitVec 1 := Scalar.cmpi .ne v2 c3_i32_227
  let v229 : BitVec 32 := Scalar.extui v228
  let c0_i32_230 : BitVec 32 := 0#32
  let v230 : BitVec 1 := Scalar.cmpi .ne v229 c0_i32_230
  v230

def k0_off38 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond53 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_231 : BitVec 32 := 4#32
  let v231 : BitVec 1 := Scalar.cmpi .ne v2 c4_i32_231
  let v232 : BitVec 32 := Scalar.extui v231
  let c0_i32_234 : BitVec 32 := 0#32
  let v233 : BitVec 1 := Scalar.cmpi .ne v232 c0_i32_234
  v233

def k0_off39 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond54 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_235 : BitVec 32 := 5#32
  let v234 : BitVec 1 := Scalar.cmpi .ne v2 c5_i32_235
  let v235 : BitVec 32 := Scalar.extui v234
  let c0_i32_238 : BitVec 32 := 0#32
  let v236 : BitVec 1 := Scalar.cmpi .ne v235 c0_i32_238
  v236

def k0_off40 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond55 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_239 : BitVec 32 := 6#32
  let v237 : BitVec 1 := Scalar.cmpi .ne v2 c6_i32_239
  let v238 : BitVec 32 := Scalar.extui v237
  let c0_i32_242 : BitVec 32 := 0#32
  let v239 : BitVec 1 := Scalar.cmpi .ne v238 c0_i32_242
  v239

def k0_off41 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond56 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_243 : BitVec 32 := 7#32
  let v240 : BitVec 1 := Scalar.cmpi .ne v2 c7_i32_243
  let v241 : BitVec 32 := Scalar.extui v240
  let c0_i32_246 : BitVec 32 := 0#32
  let v242 : BitVec 1 := Scalar.cmpi .ne v241 c0_i32_246
  v242

def k0_off42 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond57 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_247 : BitVec 32 := 8#32
  let v243 : BitVec 1 := Scalar.cmpi .ne v2 c8_i32_247
  let v244 : BitVec 32 := Scalar.extui v243
  let c0_i32_250 : BitVec 32 := 0#32
  let v245 : BitVec 1 := Scalar.cmpi .ne v244 c0_i32_250
  v245

def k0_off43 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond58 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_251 : BitVec 32 := 9#32
  let v246 : BitVec 1 := Scalar.cmpi .ne v2 c9_i32_251
  let v247 : BitVec 32 := Scalar.extui v246
  let c0_i32_254 : BitVec 32 := 0#32
  let v248 : BitVec 1 := Scalar.cmpi .ne v247 c0_i32_254
  v248

def k0_off44 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond59 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_255 : BitVec 32 := 10#32
  let v249 : BitVec 1 := Scalar.cmpi .ne v2 c10_i32_255
  let v250 : BitVec 32 := Scalar.extui v249
  let c0_i32_258 : BitVec 32 := 0#32
  let v251 : BitVec 1 := Scalar.cmpi .ne v250 c0_i32_258
  v251

def k0_off45 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond60 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_259 : BitVec 32 := 11#32
  let v252 : BitVec 1 := Scalar.cmpi .ne v2 c11_i32_259
  let v253 : BitVec 32 := Scalar.extui v252
  let c0_i32_262 : BitVec 32 := 0#32
  let v254 : BitVec 1 := Scalar.cmpi .ne v253 c0_i32_262
  v254

def k0_off46 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond61 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_263 : BitVec 32 := 12#32
  let v255 : BitVec 1 := Scalar.cmpi .ne v2 c12_i32_263
  let v256 : BitVec 32 := Scalar.extui v255
  let c0_i32_266 : BitVec 32 := 0#32
  let v257 : BitVec 1 := Scalar.cmpi .ne v256 c0_i32_266
  v257

def k0_off47 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond62 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_267 : BitVec 32 := 13#32
  let v258 : BitVec 1 := Scalar.cmpi .ne v2 c13_i32_267
  let v259 : BitVec 32 := Scalar.extui v258
  let c0_i32_270 : BitVec 32 := 0#32
  let v260 : BitVec 1 := Scalar.cmpi .ne v259 c0_i32_270
  v260

def k0_off48 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond63 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_271 : BitVec 32 := 14#32
  let v261 : BitVec 1 := Scalar.cmpi .ne v2 c14_i32_271
  let v262 : BitVec 32 := Scalar.extui v261
  let c0_i32_274 : BitVec 32 := 0#32
  let v263 : BitVec 1 := Scalar.cmpi .ne v262 c0_i32_274
  v263

def k0_off49 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
def k0_cond64 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_275 : BitVec 32 := 15#32
  let v264 : BitVec 1 := Scalar.cmpi .ne v2 c15_i32_275
  let v265 : BitVec 32 := Scalar.extui v264
  let c0_i32_278 : BitVec 32 := 0#32
  let v266 : BitVec 1 := Scalar.cmpi .ne v265 c0_i32_278
  v266

def k0_off50 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_283 : BitVec 32 := 0#32
  let c0_i32_284 : BitVec 32 := 0#32
  ![v2.toNat, 0, 0]
abbrev stage0_0 : Fin 1 → Memref sig .tc .vmem S256x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x1 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S256x128 : Shape := ⟨2, ![256, 128]⟩
abbrev S128x32 : Shape := ⟨2, ![128, 32]⟩
abbrev S256x1 : Shape := ⟨2, ![256, 1]⟩
abbrev S32x128x256 : Shape := ⟨3, ![32, 128, 256]⟩
abbrev S128x256 : Shape := ⟨2, ![128, 256]⟩
abbrev S256x32 : Shape := ⟨2, ![256, 32]⟩
abbrev S_ : Shape := ⟨0, ![]⟩
abbrev S256 : Shape := ⟨1, ![256]⟩
abbrev S256x256 : Shape := ⟨2, ![256, 256]⟩
abbrev S256x2 : Shape := ⟨2, ![256, 2]⟩
abbrev S2 : Shape := ⟨1, ![2]⟩
abbrev S1x2 : Shape := ⟨2, ![1, 2]⟩
abbrev S256x128x256 : Shape := ⟨3, ![256, 128, 256]⟩

abbrev nBuf : Space → Nat
  | .hbm => 48
  | .vmem => 0
  | .smem => 0
  | _ => 0

abbrev bufTy : (tb : Table) → Fin (tcTables nBuf tb) → BufTy
  | .hbm, ⟨0, _⟩ => ⟨S256x128, .bf16⟩
  | .hbm, ⟨1, _⟩ => ⟨S128x32, .bf16⟩
  | .hbm, ⟨2, _⟩ => ⟨S256x1, .i32⟩
  | .hbm, ⟨3, _⟩ => ⟨S32x128x256, .bf16⟩
  | .hbm, ⟨4, _⟩ => ⟨S128x256, .bf16⟩
  | .hbm, ⟨5, _⟩ => ⟨S256x128, .f32⟩
  | .hbm, ⟨6, _⟩ => ⟨S128x32, .f32⟩
  | .hbm, ⟨7, _⟩ => ⟨S256x32, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x32, .f32⟩
  | .hbm, ⟨12, _⟩ => ⟨S256x32, .f32⟩
  | .hbm, ⟨13, _⟩ => ⟨S256x32, .f32⟩
  | .hbm, ⟨14, _⟩ => ⟨S_, .f32⟩
  | .hbm, ⟨15, _⟩ => ⟨S256, .f32⟩
  | .hbm, ⟨16, _⟩ => ⟨S256x1, .f32⟩
  | .hbm, ⟨17, _⟩ => ⟨S256x32, .f32⟩
  | .hbm, ⟨18, _⟩ => ⟨S256x32, .f32⟩
  | .hbm, ⟨19, _⟩ => ⟨S128x256, .f32⟩
  | .hbm, ⟨20, _⟩ => ⟨S256x256, .f32⟩
  | .hbm, ⟨21, _⟩ => ⟨S256, .i32⟩
  | .hbm, ⟨22, _⟩ => ⟨S256, .i32⟩
  | .hbm, ⟨23, _⟩ => ⟨S256x1, .i32⟩
  | .hbm, ⟨24, _⟩ => ⟨S256x1, .i32⟩
  | .hbm, ⟨25, _⟩ => ⟨S256x2, .i32⟩
  | .hbm, ⟨26, _⟩ => ⟨S2, .i32⟩
  | .hbm, ⟨27, _⟩ => ⟨S_, .i32⟩
  | .hbm, ⟨28, _⟩ => ⟨S256x2, .i32⟩
  | .hbm, ⟨29, _⟩ => ⟨S256x2, .i1⟩
  | .hbm, ⟨30, _⟩ => ⟨S1x2, .i32⟩
  | .hbm, ⟨31, _⟩ => ⟨S256x2, .i32⟩
  | .hbm, ⟨32, _⟩ => ⟨S256x2, .i1⟩
  | .hbm, ⟨33, _⟩ => ⟨S256x2, .i1⟩
  | .hbm, ⟨34, _⟩ => ⟨S_, .i1⟩
  | .hbm, ⟨35, _⟩ => ⟨S256, .i1⟩
  | .hbm, ⟨36, _⟩ => ⟨S256, .f32⟩
  | .hbm, ⟨37, _⟩ => ⟨S_, .f32⟩
  | .hbm, ⟨38, _⟩ => ⟨S256, .f32⟩
  | .hbm, ⟨39, _⟩ => ⟨S256, .f32⟩
  | .hbm, ⟨40, _⟩ => ⟨S32x128x256, .f32⟩
  | .hbm, ⟨41, _⟩ => ⟨S256x1, .i32⟩
  | .hbm, ⟨42, _⟩ => ⟨S256x128x256, .f32⟩
  | .hbm, ⟨43, _⟩ => ⟨S256x256, .f32⟩
  | .hbm, ⟨44, _⟩ => ⟨S256x1, .f32⟩
  | .hbm, ⟨45, _⟩ => ⟨S256x256, .f32⟩
  | .hbm, ⟨46, _⟩ => ⟨S256x256, .f32⟩
  | .hbm, ⟨47, _⟩ => ⟨S256x256, .f32⟩
  | _, _ => ⟨S256x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_c : Ref sig .tc := ⟨.hbm, 26, rfl⟩
abbrev main_c_1 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_c_2 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩

abbrev nD : Nat := 1
abbrev τ : Topo := Topo.v7x

variable {F : FTy → Type} [FloatOps F]
-- ==== Proof.Slots.lean ====
/-
  The sixteen slots of the two exchange buffers.

  Every device holds a send buffer and a receive buffer of shape [16, 16, 256]; slot `j` of either is the
  plane whose first coordinate is `j`.  This module says which elements a slot has, that the sixteen slots
  partition a buffer, what a load and a store through a slot do, and what a transfer from slot `j` of one
  buffer to slot `d` of another leaves there.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Frame
public import Idealize.ShloMosaic.Lib.Pipeline.Launch
public import Idealize.ShloMosaic.Lib.Pipeline.Kit
public import Idealize.ShloMosaic.Lib.Pipeline.ValueKit.Geometry
public import Idealize.ShloMosaic.Lib.Ring
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The slots as the program names them -/

/-- The offset of slot `j`. -/
abbrev at3 (j : Fin 16) : Fin 3 → ℕ := ![j.val, 0, 0]

theorem at3_inb (j : Fin 16) : ∀ a, at3 j a + S1x16x256.size a ≤ S16x16x256.size a := by
  revert j; decide

/-- The plane at offset `o` of the send buffer, as a matrix. -/
abbrev sSlot (o : Fin 3 → ℕ) (h : ∀ a, o a + S1x16x256.size a ≤ S16x16x256.size a) : Memref sig .tc .vmem S16x256 .bf16 :=
  ((Memref.whole cc0_scratch0 : Memref sig .tc .vmem S16x16x256 .bf16).slice (Rect.unit (s := S16x16x256) o S1x16x256.size h)
    (fun _ => rfl)).squeeze S16x256 squeezes_S1x16x256_S16x256

/-- The plane at offset `o` of the receive buffer, as a matrix. -/
abbrev rSlot (o : Fin 3 → ℕ) (h : ∀ a, o a + S1x16x256.size a ≤ S16x16x256.size a) : Memref sig .tc .vmem S16x256 .bf16 :=
  ((Memref.whole cc0_scratch1 : Memref sig .tc .vmem S16x16x256 .bf16).slice (Rect.unit (s := S16x16x256) o S1x16x256.size h)
    (fun _ => rfl)).squeeze S16x256 squeezes_S1x16x256_S16x256

/-- The elements of slot `j`: those whose first coordinate is `j`. -/
def rows (j : Fin 16) : Finset S16x16x256.Idx := Finset.univ.filter fun i => (i 0).val = j.val

theorem mem_rows {j : Fin 16} {i : S16x16x256.Idx} : i ∈ rows j ↔ (i 0).val = j.val := by
  unfold rows; rw [Finset.mem_filter]; exact ⟨fun h => h.2, fun h => ⟨Finset.mem_univ _, h⟩⟩

/-- The rectangle at offset `at3 j` has exactly the elements of slot `j`. -/
theorem rect_set (j : Fin 16) (h) : (Rect.unit (s := S16x16x256) (at3 j) S1x16x256.size h).set = rows j := by
  ext i
  rw [Rect.mem_set_unit, mem_rows]
  constructor
  · intro hi
    have h0 := hi 0
    have h1 : j.val ≤ (i 0 : ℕ) := h0.1
    have h2 : (i 0 : ℕ) < j.val + 1 := h0.2
    show (i 0 : ℕ) = j.val
    omega
  · intro hi a
    have hj : (i 0 : ℕ) = j.val := hi
    match a with
    | ⟨0, _⟩ => exact ⟨le_of_eq hj.symm, by show (i 0 : ℕ) < j.val + 1; omega⟩
    | ⟨1, _⟩ => exact ⟨Nat.zero_le _, by show (i 1 : ℕ) < 0 + 16; have := (i 1).isLt; rw [Nat.zero_add]; exact this⟩
    | ⟨2, _⟩ => exact ⟨Nat.zero_le _, by show (i 2 : ℕ) < 0 + 256; have := (i 2).isLt; rw [Nat.zero_add]; exact this⟩

theorem sSlot_set (j : Fin 16) (h) : ((sSlot (at3 j) h).view.set : Finset S16x16x256.Idx) = rows j :=
  (View.set_reshape _ _).trans ((View.set_slice_whole cc0_scratch0 _).trans (rect_set j h))

theorem rSlot_set (j : Fin 16) (h) : ((rSlot (at3 j) h).view.set : Finset S16x16x256.Idx) = rows j :=
  (View.set_reshape _ _).trans ((View.set_slice_whole cc0_scratch1 _).trans (rect_set j h))

theorem rows_disjoint (j j' : Fin 16) (h : j ≠ j') : Disjoint (rows j) (rows j') :=
  Finset.disjoint_left.mpr fun i hi hi' => h (Fin.ext ((mem_rows.mp hi).symm.trans (mem_rows.mp hi')))

theorem rows_cover : (Finset.univ : Finset (Fin 16)).biUnion rows = Finset.univ := by
  ext i; rw [Finset.mem_biUnion]
  exact ⟨fun _ => Finset.mem_univ _, fun _ => ⟨i 0, Finset.mem_univ _, mem_rows.mpr rfl⟩⟩

/-! ## What a transfer between two slots leaves -/

/-- The index `i` moved to slot `j`. -/
def moveTo (j : Fin 16) (i : S16x16x256.Idx) : S16x16x256.Idx := fun a => match a with
  | ⟨0, _⟩ => j
  | ⟨1, _⟩ => i 1
  | ⟨2, _⟩ => i 2

/-- Contents `fs` of a send buffer, its slot `j` written over slot `d` of a receive buffer: there, element `i`
    is `fs` at `i` moved to slot `j`. -/
theorem landed_apply (j d : Fin 16) (hj hd) (fs : (cc0_scratch0 : Ref sig .tc).ty.Contents (Elt F))
    (fd : (cc0_scratch1 : Ref sig .tc).ty.Contents (Elt F)) (i : S16x16x256.Idx) (hi : i ∈ rows d) :
    (rSlot (at3 d) hd).view.write (Elt F) fd ((sSlot (at3 j) hj).view.read (Elt F) fs) Finset.univ i = fs (moveTo j i) := by
  have hi' : i ∈ ((rSlot (at3 d) hd).view.set : Finset S16x16x256.Idx) := by rw [rSlot_set]; exact hi
  obtain ⟨y, -, rfl⟩ := Finset.mem_map.mp hi'
  refine ((rSlot (at3 d) hd).view.write_emb_of_mem _ _ (Finset.mem_univ y)).trans ?_
  refine congrArg fs (funext fun a => Fin.ext ?_)
  have er : ∀ a : Fin 3, (((rSlot (at3 d) hd).view.emb y : S16x16x256.Idx) a : ℕ)
      = at3 d a + (Shape.reshapeEquiv (s := S1x16x256) (s' := S16x256) squeezes_S1x16x256_S16x256.numel_eq y a : ℕ) :=
    fun a => ValueKit.rect_emb_unit_val (s := S16x16x256) _ _ _ _ _
  have es : ∀ a : Fin 3, (((sSlot (at3 j) hj).view.emb y : S16x16x256.Idx) a : ℕ)
      = at3 j a + (Shape.reshapeEquiv (s := S1x16x256) (s' := S16x256) squeezes_S1x16x256_S16x256.numel_eq y a : ℕ) :=
    fun a => ValueKit.rect_emb_unit_val (s := S16x16x256) _ _ _ _ _
  refine (es a).trans ?_
  match a with
  | ⟨0, _⟩ =>
    have h0 : (Shape.reshapeEquiv (s := S1x16x256) (s' := S16x256) squeezes_S1x16x256_S16x256.numel_eq y 0 : ℕ) < 1 :=
      (Shape.reshapeEquiv (s := S1x16x256) (s' := S16x256) squeezes_S1x16x256_S16x256.numel_eq y 0).isLt
    show j.val + _ = j.val
    exact (congrArg (j.val + ·) (Nat.lt_one_iff.mp h0))
  | ⟨1, _⟩ => exact (er 1).symm
  | ⟨2, _⟩ => exact (er 2).symm

/-! ## The device's own slot, copied by a load and a store -/

/-- The elements a load of slot `j` of the send buffer reads, -/
theorem load_send_set (j : Fin 16) (h) :
    ((Memref.whole cc0_scratch0 : Memref sig .tc .vmem S16x16x256 .bf16).view.setOn
      (Rect.unit (s := S16x16x256) (at3 j) S1x16x256.size h).toLoadRect.set : Finset S16x16x256.Idx) = rows j :=
  (View.set_slice (View.whole cc0_scratch0) (Rect.unit (s := S16x16x256) (at3 j) S1x16x256.size h)).symm.trans
    ((View.set_slice_whole cc0_scratch0 _).trans (rect_set j h))

/-- of the receive buffer, -/
theorem load_recv_set (j : Fin 16) (h) :
    ((Memref.whole cc0_scratch1 : Memref sig .tc .vmem S16x16x256 .bf16).view.setOn
      (Rect.unit (s := S16x16x256) (at3 j) S1x16x256.size h).toLoadRect.set : Finset S16x16x256.Idx) = rows j :=
  (View.set_slice (View.whole cc0_scratch1) (Rect.unit (s := S16x16x256) (at3 j) S1x16x256.size h)).symm.trans
    ((View.set_slice_whole cc0_scratch1 _).trans (rect_set j h))

/-- and those a store to slot `j` of the receive buffer writes. -/
theorem store_recv_set (j : Fin 16) (h) :
    (((Memref.whole cc0_scratch1 : Memref sig .tc .vmem S16x16x256 .bf16).access
      (Rect.unit (s := S16x16x256) (at3 j) S1x16x256.size h)).setOn Finset.univ : Finset S16x16x256.Idx) = rows j :=
  (View.set_slice_whole cc0_scratch1 _).trans (rect_set j h)

/-- The stored value is the loaded one. -/
theorem pay4_eq (v : Vec F S1x16x256 .bf16) : k0_pay4 v = v := shapeCast_shapeCast v _ _

/-- Slot `j` of contents `fs` loaded from the send buffer and stored to slot `j` of the receive buffer. -/
theorem copied_apply (j : Fin 16) (h h') (fs : (cc0_scratch0 : Ref sig .tc).ty.Contents (Elt F))
    (fd : (cc0_scratch1 : Ref sig .tc).ty.Contents (Elt F)) (i : S16x16x256.Idx) (hi : i ∈ rows j) :
    ((Memref.whole cc0_scratch1 : Memref sig .tc .vmem S16x16x256 .bf16).access
        (Rect.unit (s := S16x16x256) (at3 j) S1x16x256.size h)).write (Elt F) fd
      (k0_pay4 ((Memref.whole cc0_scratch0 : Memref sig .tc .vmem S16x16x256 .bf16).view.readAt (Elt F)
        (Rect.unit (s := S16x16x256) (at3 j) S1x16x256.size h').toLoadRect fs)) Finset.univ i = fs (moveTo j i) := by
  rw [pay4_eq]
  have hi' : i ∈ (((Memref.whole cc0_scratch1 : Memref sig .tc .vmem S16x16x256 .bf16).access
      (Rect.unit (s := S16x16x256) (at3 j) S1x16x256.size h)).set : Finset S16x16x256.Idx) :=
    Eq.mp (congrArg (i ∈ ·) (store_recv_set j h).symm) hi
  obtain ⟨y, -, rfl⟩ := Finset.mem_map.mp hi'
  refine (View.write_emb_of_mem _ _ (Finset.mem_univ y)).trans ?_
  have e : moveTo j ((((Memref.whole cc0_scratch1 : Memref sig .tc .vmem S16x16x256 .bf16).access
      (Rect.unit (s := S16x16x256) (at3 j) S1x16x256.size h)).emb y : S16x16x256.Idx))
      = (Rect.unit (s := S16x16x256) (at3 j) S1x16x256.size h').emb y := by
    funext a
    match a with
    | ⟨0, _⟩ => exact Fin.ext (mem_rows.mp hi).symm
    | ⟨1, _⟩ => rfl
    | ⟨2, _⟩ => rfl
  rw [e]; rfl

end Cert.Exchange

end
-- ==== Proof.Protocol.lean ====
/-
  The protocol of the exchange: its semaphore cells, what each cell is paid and with what, and the order in
  which cells may be waited for.

  Device `c` has one barrier cell, sixteen send cells and sixteen receive cells.  Every cell has one round.

    * Device `d ≠ c` pays one unit into the barrier cell of `c`, and with it hands over slot `c` of its own
      receive buffer, which only `c` will write.
    * Device `s ≠ c` pays a slot's credit into receive cell `s` of `c`; with it comes slot `s` of the receive
      buffer of `c`, holding what device `s` sent.
    * The same transfer from `c` to `j` pays a slot's credit into send cell `j` of `c`; with it comes back slot
      `j` of the send buffer of `c`.

  Receive cell `c` and send cell `c` of device `c` itself are paid nothing: the device copies that slot.
-/
module

public import proofs.«01_k».proof.Proof.Slots

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

theorem at1_inb (j : Dev nD) : ∀ a, (![j.val] : Fin 1 → ℕ) a + S1.size a ≤ S16.size a := by
  revert j; decide

/-- The semaphore at offset `o` of an array of sixteen. -/
abbrev semAt (arr : DmaSems sig S16) (o : Fin 1 → ℕ) (h : ∀ a, o a + S1.size a ≤ S16.size a) : DmaSem sig :=
  ((arr.slice (Rect.unit (s := S16) o S1.size h)).squeeze S_ squeezes_S1_S_).sem

/-- The barrier semaphore, the send semaphores and the receive semaphores. -/
abbrev barS : Sem sig := (SemArray.scalar (sig.barrier 0 rfl) : Sems sig S_).sem
def sendS (j : Dev nD) : DmaSem sig := semAt cc0_scratch2 ![j.val] (at1_inb j)
def recvS (j : Dev nD) : DmaSem sig := semAt cc0_scratch3 ![j.val] (at1_inb j)

theorem sendS_val (j : Dev nD) : (sendS j).val = 6 + j.val := by revert j; decide
theorem recvS_val (j : Dev nD) : (recvS j).val = 22 + j.val := by revert j; decide

theorem sendS_inj {i j : Dev nD} (h : (SemLoc.dma (sendS i) : SemLoc sig) = .dma (sendS j)) : i = j := by
  have := congrArg Fin.val (SemLoc.dma.inj h); rw [sendS_val, sendS_val] at this; exact Fin.ext (by omega)
theorem recvS_inj {i j : Dev nD} (h : (SemLoc.dma (recvS i) : SemLoc sig) = .dma (recvS j)) : i = j := by
  have := congrArg Fin.val (SemLoc.dma.inj h); rw [recvS_val, recvS_val] at this; exact Fin.ext (by omega)
theorem send_ne_recv (i j : Dev nD) : (SemLoc.dma (sendS i) : SemLoc sig) ≠ .dma (recvS j) := fun h => by
  have := congrArg Fin.val (SemLoc.dma.inj h); rw [sendS_val, recvS_val] at this
  have hi : i.val < 16 := i.isLt
  omega
theorem dma_ne_bar (q : DmaSem sig) : (SemLoc.dma q : SemLoc sig) ≠ .reg barS := fun h => by cases h

abbrev barCell (c : Dev nD) : GSem nD τ sig := ((c : Thread nD τ), .reg barS)
abbrev sendCell (c j : Dev nD) : GSem nD τ sig := ((c : Thread nD τ), .dma (sendS j))
abbrev recvCell (c j : Dev nD) : GSem nD τ sig := ((c : Thread nD τ), .dma (recvS j))

/-- A device's cells: its barrier cell, its send cells, its receive cells. -/
abbrev CIx : Type := Unit ⊕ (Dev nD ⊕ Dev nD)
abbrev csem : CIx → SemLoc sig
  | .inl _ => .reg barS
  | .inr (.inl j) => .dma (sendS j)
  | .inr (.inr j) => .dma (recvS j)
/-- Those of them that the kernel allocates. -/
abbrev osem : Dev nD ⊕ Dev nD → SemLoc sig := fun k => csem (.inr k)
abbrev kcell (ck : Dev nD × CIx) : GSem nD τ sig := ((ck.1 : Thread nD τ), csem ck.2)

theorem csem_injective : Function.Injective csem := by
  rintro (_ | i | i) (_ | j | j) h
  · rfl
  · exact absurd h.symm (dma_ne_bar _)
  · exact absurd h.symm (dma_ne_bar _)
  · exact absurd h (dma_ne_bar _)
  · rw [sendS_inj h]
  · exact absurd h (send_ne_recv i j)
  · exact absurd h (dma_ne_bar _)
  · exact absurd h.symm (send_ne_recv j i)
  · rw [recvS_inj h]

theorem kcell_injective : Function.Injective (kcell : Dev nD × CIx → GSem nD τ sig) := by
  rintro ⟨c, k⟩ ⟨c', k'⟩ h
  have h1 : c = c' := congrArg (fun g : GSem nD τ sig => g.1.1) h
  have h2 : k = k' := csem_injective (congrArg Prod.snd h)
  subst h1; subst h2; rfl

/-- What a transfer of one slot credits. -/
abbrev N : ℕ := (rSlot (at3 0) (at3_inb 0)).view.dmaCredit
theorem N_pos : 0 < N := View.dmaCredit_pos _ (by decide)

/-! ## The contents handed over -/

variable (G : Dev nD → (cc0_scratch0 : Ref sig .tc).ty.Contents (Elt F))

/-- What device `c`'s receive buffer ends with, when device `d` sends `G d`: in slot `s`, slot `c` of `G s`. -/
def received (c : Dev nD) : (cc0_scratch1 : Ref sig .tc).ty.Contents (Elt F) :=
  fun i => G ((i : S16x16x256.Idx) 0) (moveTo c i)

/-- Slot `j` of device `c`'s send buffer, holding `f`. -/
def sPts (c j : Dev nD) (f : (cc0_scratch0 : Ref sig .tc).ty.Contents (Elt F)) : sProp 𝕄 :=
  ((c : Thread nD τ).loc cc0_scratch0) ↦[rows j]{fullShare} f
/-- Slot `s` of device `c`'s receive buffer, holding `f`. -/
def rPts (c s : Dev nD) (f : (cc0_scratch1 : Ref sig .tc).ty.Contents (Elt F)) : sProp 𝕄 :=
  ((c : Thread nD τ).loc cc0_scratch1) ↦[rows s]{fullShare} f

omit [FloatOps F] in
instance sPts_storable (c j : Dev nD) (f) : BI.Storable (upEmb : UEmb _ 𝕄) (sPts (F := F) c j f) := by unfold sPts; infer_instance
omit [FloatOps F] in
instance rPts_storable (c s : Dev nD) (f) : BI.Storable (upEmb : UEmb _ 𝕄) (rPts (F := F) c s f) := by unfold rPts; infer_instance

/-! ## The schedule -/

/-- One round per cell.  The barrier cell of `c` is paid by every other device; send cell `j` and receive cell
    `j` by the duty named `j`, if that is another device. -/
def sched : Rounds.Schedule (GSem nD τ sig) (Dev nD) 𝕄 where
  duties g r :=
    if r = 0 ∧ g.1.2 = .tc then
      (if g.2 = .reg barS then Finset.univ.erase g.1.1
       else Finset.univ.filter fun d => d ≠ g.1.1 ∧ (g.2 = .dma (recvS d) ∨ g.2 = .dma (sendS d)))
    else ∅
  unitless _ := False
  amount g _ _ := if g.2 = .reg barS then 1 else N
  payload g _ d :=
    if g.2 = .reg barS then iprop(∃ f, rPts d g.1.1 f)
    else if g.2 = .dma (recvS d) then rPts g.1.1 d (received G g.1.1)
    else if g.2 = .dma (sendS d) then sPts g.1.1 d (G g.1.1)
    else iprop(emp)
  amount_pos g _ _ _ := by
    by_cases h : g.2 = .reg barS
    · rw [if_pos h]; exact Nat.one_pos
    · rw [if_neg h]; exact N_pos

omit [FloatOps F] in
instance sched_payload_storable (g : GSem nD τ sig) (r : ℕ) (d : Dev nD) :
    BI.Storable (upEmb : UEmb _ 𝕄) ((sched (F := F) G).payload g r d) := by
  show BI.Storable upEmb (if g.2 = .reg barS then iprop(∃ f, rPts d g.1.1 f)
    else if g.2 = .dma (recvS d) then rPts g.1.1 d (received G g.1.1)
    else if g.2 = .dma (sendS d) then sPts g.1.1 d (G g.1.1)
    else iprop(emp))
  (repeat' split) <;> infer_instance

section Table
variable (c j : Dev nD)

omit [FloatOps F]

theorem duties_bar : (sched (F := F) G).duties (barCell c) 0 = Finset.univ.erase c := by
  dsimp only [sched]; rw [if_pos ⟨rfl, rfl⟩, if_pos rfl]
theorem duties_send (h : j ≠ c) : (sched (F := F) G).duties (sendCell c j) 0 = {j} := by
  dsimp only [sched]; rw [if_pos ⟨rfl, rfl⟩, if_neg (dma_ne_bar _)]
  ext d; rw [Finset.mem_filter, Finset.mem_singleton]
  exact ⟨fun ⟨_, _, h'⟩ => h'.elim (fun h' => absurd h' (send_ne_recv _ _)) (fun h' => (sendS_inj h').symm),
    fun h' => by subst h'; exact ⟨Finset.mem_univ _, h, .inr rfl⟩⟩
theorem duties_recv (h : j ≠ c) : (sched (F := F) G).duties (recvCell c j) 0 = {j} := by
  dsimp only [sched]; rw [if_pos ⟨rfl, rfl⟩, if_neg (dma_ne_bar _)]
  ext d; rw [Finset.mem_filter, Finset.mem_singleton]
  exact ⟨fun ⟨_, _, h'⟩ => h'.elim (fun h' => (recvS_inj h').symm) (fun h' => absurd h'.symm (send_ne_recv _ _)),
    fun h' => by subst h'; exact ⟨Finset.mem_univ _, h, .inl rfl⟩⟩
theorem duties_own_send (r : ℕ) : (sched (F := F) G).duties (sendCell c c) r = ∅ := by
  dsimp only [sched]; split
  · rw [if_neg (dma_ne_bar _)]
    refine Finset.filter_eq_empty_iff.mpr fun d _ h => ?_
    exact h.2.elim (fun h' => send_ne_recv _ _ h') (fun h' => h.1 (sendS_inj h').symm)
  · rfl
theorem duties_own_recv (r : ℕ) : (sched (F := F) G).duties (recvCell c c) r = ∅ := by
  dsimp only [sched]; split
  · rw [if_neg (dma_ne_bar _)]
    refine Finset.filter_eq_empty_iff.mpr fun d _ h => ?_
    exact h.2.elim (fun h' => h.1 (recvS_inj h').symm) (fun h' => send_ne_recv _ _ h'.symm)
  · rfl
theorem duties_later (g : GSem nD τ sig) : ∀ r, 0 + 1 ≤ r → (sched (F := F) G).duties g r = ∅ :=
  fun r hr => by dsimp only [sched]; exact if_neg fun h => by omega

theorem amount_bar (d : Dev nD) : (sched (F := F) G).amount (barCell c) 0 d = 1 := by dsimp only [sched]; exact if_pos rfl
theorem amount_dma (q : DmaSem sig) (d : Dev nD) : (sched (F := F) G).amount ((c : Thread nD τ), .dma q) 0 d = N := by
  dsimp only [sched]; exact if_neg (dma_ne_bar q)

theorem expect_bar : (sched (F := F) G).expect (barCell c) 0 = 15 := by
  unfold Schedule.expect Schedule.amountOf
  rw [duties_bar, Finset.sum_congr rfl fun d _ => amount_bar G c d, Finset.sum_const,
    Finset.card_erase_of_mem (Finset.mem_univ _), Finset.card_univ, Fintype.card_fin]; rfl
theorem expect_send (h : j ≠ c) : (sched (F := F) G).expect (sendCell c j) 0 = N := by
  unfold Schedule.expect Schedule.amountOf; rw [duties_send G c j h, Finset.sum_singleton, amount_dma]
theorem expect_recv (h : j ≠ c) : (sched (F := F) G).expect (recvCell c j) 0 = N := by
  unfold Schedule.expect Schedule.amountOf; rw [duties_recv G c j h, Finset.sum_singleton, amount_dma]

theorem payload_bar (d : Dev nD) : (sched (F := F) G).payload (barCell c) 0 d = iprop(∃ f, rPts d c f) := by
  dsimp only [sched]; exact if_pos rfl
theorem payload_recv : (sched (F := F) G).payload (recvCell c j) 0 j = rPts c j (received G c) := by
  dsimp only [sched]; rw [if_neg (dma_ne_bar _), if_pos rfl]
theorem payload_send : (sched (F := F) G).payload (sendCell c j) 0 j = sPts c j (G c) := by
  dsimp only [sched]; rw [if_neg (dma_ne_bar _), if_neg (send_ne_recv _ _), if_pos rfl]

/-- What the barrier wait of `c` brings: from every other device, its slot `c`. -/
theorem rest_bar : bigSep ((sched (F := F) G).duties (barCell c) 0 \ ∅) (fun d => (sched (F := F) G).payload (barCell c) 0 d)
    = bigSep (Finset.univ.erase c) fun d => iprop(∃ f, rPts d c f) := by
  rw [Finset.sdiff_empty, duties_bar]; exact bigSep_congr fun d _ => payload_bar G c d
theorem rest_recv (h : j ≠ c) :
    bigSep ((sched (F := F) G).duties (recvCell c j) 0 \ ∅) (fun d => (sched (F := F) G).payload (recvCell c j) 0 d)
      = rPts c j (received G c) := by
  rw [Finset.sdiff_empty, duties_recv G c j h, bigSep_singleton, payload_recv]
theorem rest_send (h : j ≠ c) :
    bigSep ((sched (F := F) G).duties (sendCell c j) 0 \ ∅) (fun d => (sched (F := F) G).payload (sendCell c j) 0 d)
      = sPts c j (G c) := by
  rw [Finset.sdiff_empty, duties_send G c j h, bigSep_singleton, payload_send]

end Table

/-! ## What a device owes, and the order of waits -/

/-- The other devices with number at least `n`. -/
def rest (c : Dev nD) (n : ℕ) : Finset (Dev nD) := Finset.univ.filter fun j => j ≠ c ∧ n ≤ j.val

theorem rest_zero (c : Dev nD) : rest c 0 = Finset.univ.erase c := by
  ext j; simp [rest]
theorem rest_step (c k : Dev nD) (h : k ≠ c) : rest c k.val = insert k (rest c (k.val + 1)) := by
  ext j; simp only [rest, Finset.mem_filter, Finset.mem_univ, true_and, Finset.mem_insert]
  constructor
  · rintro ⟨h1, h2⟩
    rcases Nat.eq_or_lt_of_le h2 with h3 | h3
    · exact .inl (Fin.ext h3.symm)
    · exact .inr ⟨h1, h3⟩
  · rintro (rfl | ⟨h1, h2⟩)
    · exact ⟨h, le_rfl⟩
    · exact ⟨h1, by omega⟩
theorem rest_notMem (c k : Dev nD) : k ∉ rest c (k.val + 1) := by
  simp only [rest, Finset.mem_filter, not_and, not_le]; intro _ _; omega
theorem rest_own (c : Dev nD) : rest c c.val = rest c (c.val + 1) := by
  ext j; simp only [rest, Finset.mem_filter, Finset.mem_univ, true_and]
  refine ⟨fun ⟨h1, h2⟩ => ⟨h1, ?_⟩, fun ⟨h1, h2⟩ => ⟨h1, by omega⟩⟩
  have : j.val ≠ c.val := fun h => h1 (Fin.ext h)
  omega
theorem rest_end (c : Dev nD) : rest c 16 = ∅ := by
  refine Finset.filter_eq_empty_iff.mpr fun j _ h => ?_
  have : j.val < 16 := j.isLt
  omega

/-- The credit of the transfers to the devices of `S`, and the units of the signals to them. -/
def owedRecv (c : Dev nD) (S : Finset (Dev nD)) : CellTallies nD τ sig Unit := ∑ j ∈ S, tallyAt (recvCell j c) () N
def owedBar (S : Finset (Dev nD)) : CellTallies nD τ sig Unit := ∑ j ∈ S, tallyAt (barCell j) () 1

/-- What device `c` owes at launch: one transfer and one signal to every other device. -/
def O₀ (c : Dev nD) : CellTallies nD τ sig Unit := owedRecv c (Finset.univ.erase c) + owedBar (Finset.univ.erase c)

def L (g : GSem nD τ sig) : Finset Unit := if g.1.2 = .tc then {()} else ∅
/-- Barrier cells stand at 1, receive cells at 2, all others at 0. -/
def lv (g : GSem nD τ sig) (_ : Unit) : ℕ :=
  if g.2 = .reg barS then 1 else if ∃ j, g.2 = .dma (recvS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := if_pos rfl
theorem lv_recv (c j : Dev nD) : lv (recvCell c j) () = 2 := by
  unfold lv; rw [if_neg (dma_ne_bar _)]; exact if_pos ⟨j, rfl⟩

theorem sum_pos {S : Finset (Dev nD)} {f : Dev nD → GSem nD τ sig} {n : ℕ} {g : GSem nD τ sig} {u : Unit}
    (h : 0 < (∑ j ∈ S, tallyAt (f j) () n : CellTallies nD τ sig Unit) g u) : ∃ j ∈ S, g = f j := by
  rw [Finset.sum_apply, Finsupp.finset_sum_apply] at h
  obtain ⟨j, hj, h0⟩ := Finset.exists_ne_zero_of_sum_ne_zero h.ne'
  refine ⟨j, hj, ?_⟩
  rw [tallyAt_apply] at h0
  by_contra hn
  exact h0 (if_neg fun h' => hn h'.1)

theorem owedRecv_pos {c : Dev nD} {S : Finset (Dev nD)} {g : GSem nD τ sig} {u : Unit} (h : 0 < owedRecv c S g u) :
    ∃ j, g = recvCell j c := by
  obtain ⟨j, -, h⟩ := sum_pos (f := fun j => recvCell j c) h; exact ⟨j, h⟩

theorem O₀_pos {c : Dev nD} {g : GSem nD τ sig} {u : Unit} (h : 0 < O₀ c g u) :
    (∃ j, g = recvCell j c) ∨ ∃ j, g = barCell j := by
  unfold O₀ at h
  rw [Pi.add_apply, Finsupp.add_apply] at h
  rcases Nat.eq_zero_or_pos (owedRecv c (Finset.univ.erase c) g u) with h0 | h0
  · rw [h0, Nat.zero_add] at h
    obtain ⟨j, -, h⟩ := sum_pos (f := fun j => barCell j) h; exact .inr ⟨j, h⟩
  · exact .inl (owedRecv_pos h0)

omit [FloatOps F] in
/-- A semaphore that is no receive semaphore may be waited for at the start and once nothing is owed. -/
theorem mayWait_stage (c : Dev nD) (q : DmaSem sig) (hq : ∀ j, SemLoc.dma q ≠ .dma (recvS j)) (O : CellTallies nD τ sig Unit)
    (hO : O = O₀ c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨j, rfl⟩ | ⟨j, rfl⟩ <;> exact Finset.mem_singleton_self _)
      (fun p hp => by
        rw [Finset.mem_singleton.mp hp]; dsimp only [lv]
        rw [if_neg (fun h => by cases h), if_neg (fun ⟨j, h⟩ => hq j h)])
      (fun g u hg => by
        rcases O₀_pos hg with ⟨j, rfl⟩ | ⟨j, rfl⟩
        · exact lt_of_lt_of_eq (by decide) (lv_recv j c).symm
        · exact lt_of_lt_of_eq (by decide) (lv_bar j).symm)
  · rw [MayWait_zero]; iintro -; iempintro

omit [FloatOps F] in
/-- The barrier may be waited for while only transfers are owed. -/
theorem mayWait_bar (c : Dev nD) (S : Finset (Dev nD)) :
    (levAts L lv : sProp 𝕄) ⊢ MayWait (c : Thread nD τ) (.reg barS) () (owedRecv c S) :=
  MayOwe.of_cut (L := L) (lev := lv) 1 (fun p hp => by rw [Finset.mem_singleton.mp hp, L_tc]; exact Finset.mem_singleton_self _)
    (fun g u hg => by obtain ⟨j, rfl⟩ := owedRecv_pos hg; exact Finset.mem_singleton_self _)
    (fun p hp => by rw [Finset.mem_singleton.mp hp]; exact le_of_eq (lv_bar c))
    (fun g u hg => by obtain ⟨j, rfl⟩ := owedRecv_pos hg; exact lt_of_lt_of_eq (by decide) (lv_recv j c).symm)

/-! ## What every device knows throughout -/

/-- The invariant of every cell, under the names `K`, and that every cell has reached its round. -/
def records (K : Dev nD × CIx → ℕ) : sProp 𝕄 :=
  iprop((bigSep Finset.univ fun ck : Dev nD × CIx => cellInv ER (sched G) (K ck) (kcell ck))
    ∗ bigSep Finset.univ fun ck : Dev nD × CIx => reached ER (kcell ck) 0)

omit [FloatOps F] in
instance records_persistent (K : Dev nD × CIx → ℕ) : BI.Persistent (records (F := F) G K) := by unfold records; infer_instance

omit [FloatOps F] in
theorem bigSep_at {I : Type} [Fintype I] [DecidableEq I] (Φ : I → sProp 𝕄) (i : I) : (bigSep Finset.univ Φ : sProp 𝕄) ⊢ Φ i :=
  bigSep_elim (Finset.mem_univ i)

omit [FloatOps F] in
theorem records_inv (K : Dev nD × CIx → ℕ) (ck : Dev nD × CIx) : records (F := F) G K ⊢ cellInv ER (sched G) (K ck) (kcell ck) := by
  unfold records; iintro ⟨H, -⟩
  iapply (bigSep_at (fun ck : Dev nD × CIx => (cellInv ER (sched G) (K ck) (kcell ck) : sProp 𝕄)) ck); iexact H
omit [FloatOps F] in
theorem records_reached (K : Dev nD × CIx → ℕ) (ck : Dev nD × CIx) : records (F := F) G K ⊢ reached ER (kcell ck) 0 := by
  unfold records; iintro ⟨-, H⟩
  iapply (bigSep_at (fun ck : Dev nD × CIx => (reached ER (kcell ck) 0 : sProp 𝕄)) ck); iexact H

end Cert.Exchange

end
-- ==== Proof.Steps.lean ====
/-
  One step of each of the four phases of the exchange.

  The kernel writes each phase out as sixteen conditional blocks, one per device number `k`, which do nothing
  when `k` is the device itself.  For every phase this module says what a device holds after the first `n`
  blocks, and that block `k` takes it from `k` to `k + 1`.
-/
module

public import proofs.«01_k».proof.Proof.Protocol

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-! ## Families of which the first `n` members are done -/

/-- For every device but `c`: `A` if its number is below `n`, `B` otherwise. -/
def fam (c : Dev nD) (n : ℕ) (B A : Dev nD → sProp 𝕄) : sProp 𝕄 :=
  bigSep (Finset.univ.erase c) fun j => if j.val < n then A j else B j

omit [FloatOps F]

theorem fam_zero (c : Dev nD) (B A : Dev nD → sProp 𝕄) : fam c 0 B A = bigSep (Finset.univ.erase c) B :=
  bigSep_congr fun j _ => if_neg (Nat.not_lt_zero _)

theorem fam_end (c : Dev nD) (B A : Dev nD → sProp 𝕄) : fam c 16 B A = bigSep (Finset.univ.erase c) A :=
  bigSep_congr fun j _ => if_pos j.isLt

theorem fam_own (c : Dev nD) (B A : Dev nD → sProp 𝕄) : fam c c.val B A = fam c (c.val + 1) B A :=
  bigSep_congr fun j hj => by
    have h : j.val ≠ c.val := fun h => Finset.ne_of_mem_erase hj (Fin.ext h)
    by_cases h' : j.val < c.val
    · rw [if_pos h', if_pos (by omega)]
    · rw [if_neg h', if_neg (by omega)]

theorem fam_step (c k : Dev nD) (h : k ≠ c) (B A : Dev nD → sProp 𝕄) :
    fam c k.val B A ⊢ iprop(B k ∗ (A k -∗ fam c (k.val + 1) B A)) := by
  have hk : k ∈ Finset.univ.erase c := Finset.mem_erase.mpr ⟨h, Finset.mem_univ _⟩
  have e1 : fam c k.val B A = iprop(B k ∗ bigSep ((Finset.univ.erase c).erase k) fun j => if j.val < k.val then A j else B j) := by
    unfold fam; rw [bigSep_erase hk]; exact congrArg (BI.sep · _) (if_neg (lt_irrefl _))
  have e2 : fam c (k.val + 1) B A = iprop(A k ∗ bigSep ((Finset.univ.erase c).erase k) fun j => if j.val < k.val then A j else B j) := by
    unfold fam; rw [bigSep_erase hk, if_pos (Nat.lt_succ_self _)]
    refine congrArg (BI.sep (A k)) (bigSep_congr fun j hj => ?_)
    have h : j.val ≠ k.val := fun h => Finset.ne_of_mem_erase hj (Fin.ext h)
    by_cases h' : j.val < k.val
    · rw [if_pos h', if_pos (by omega)]
    · rw [if_neg h', if_neg (by omega)]
  rw [e1, e2]
  iintro ⟨HB, Hr⟩
  isplitl [HB]; · iexact HB
  iintro HA
  isplitl [HA] <;> iassumption

/-! ## What a device owes as a phase goes on -/

theorem owedRecv_step (c k : Dev nD) (h : k ≠ c) :
    owedRecv c (rest c k.val) = owedRecv c (rest c (k.val + 1)) + tallyAt (recvCell k c) () N := by
  unfold owedRecv; rw [rest_step c k h, Finset.sum_insert (rest_notMem c k), add_comm]
theorem owedBar_step (c k : Dev nD) (h : k ≠ c) :
    owedBar (rest c k.val) = owedBar (rest c (k.val + 1)) + tallyAt (barCell k) () 1 := by
  unfold owedBar; rw [rest_step c k h, Finset.sum_insert (rest_notMem c k), add_comm]
theorem owedRecv_end (c : Dev nD) : owedRecv c (rest c 16) = 0 := by rw [rest_end]; exact Finset.sum_empty
theorem owedBar_end (c : Dev nD) : owedBar (rest c 16) = 0 := by rw [rest_end]; exact Finset.sum_empty

/-- A step that needs what is known throughout also leaves it known. -/
theorem carry {R S S' W W' : sProp 𝕄} [BI.Persistent R] (h : iprop(R ∗ S) ⊢ iprop((S' -∗ W) -∗ W')) :
    iprop(R ∗ S) ⊢ iprop((iprop(R ∗ S') -∗ W) -∗ W') := by
  iintro ⟨#HR, HS⟩ Hk
  iapply h $$ [HS]
  · isplitr <;> iassumption
  iintro HS
  iapply Hk
  isplitr <;> iassumption

variable [FloatOps F]
variable (G : Dev nD → (cc0_scratch0 : Ref sig .tc).ty.Contents (Elt F)) (K : Dev nD × CIx → ℕ)

/-! ## The signals -/

/-- After `n` signal blocks: the receive slots not yet handed over, with the duties of the signals to come. -/
def Sig (c : Dev nD) (n : ℕ) : sProp 𝕄 :=
  iprop((∃ W, owes (c : Thread nD τ) (owedRecv c (rest c 0) + owedBar (rest c n)) W)
    ∗ fam c n (fun j => iprop(dutyTok ER (barCell j) 0 c ∗ ∃ f, rPts c j f)) (fun _ => iprop(emp)))

theorem signal_step (c k : Dev nD) (n : ℕ) (hn : n = k.val) {P : Prop} [Decidable P] (hP : P ↔ k ≠ c) {dst : P → Dev nD} (hdst : ∀ h, dst h = k)
    {α : Type} {X : Prog (TpuEff nD τ sig (Elt F) Λ₀ .tc) α} {Q : α → sProp 𝕄} :
    iprop(records G K ∗ Sig c n)
      ⊢ iprop((Sig c (n + 1) -∗ wp frame (wpE (defs₀ (F := F)) 𝒱₀ (c : Thread nD τ) none) Set.univ X Q)
        -∗ wp frame (wpE (defs₀ (F := F)) 𝒱₀ (c : Thread nD τ) none) Set.univ
          (if h : P then (semSignalWord (dst h) barS 1#32 >>= fun _ => X) else X) Q) := by
  subst hn
  by_cases h : P
  · have hk : k ≠ c := hP.mp h
    rw [dif_pos h, hdst h]
    simp only [semSignalWord, Prog.lift, Prog.bind_op, Prog.bind_ret]
    unfold Sig
    iintro ⟨#HR, ⟨%W, HO⟩, Hf⟩ Hk
    ihave Hf := (fam_step c k hk _ _) $$ Hf
    icases Hf with ⟨⟨Htok, Hpts⟩, Hf⟩
    iapply (Rounds.wp_signal 𝒱₀ ER (sched G) (c : Thread nD τ) none (dst := (k : Thread nD τ)) (κ := K (k, .inl ()))
        (d := c) (by rw [duties_bar]; exact Finset.mem_erase.mpr ⟨hk.symm, Finset.mem_univ _⟩) ((amount_bar G k c).trans (by decide)) ()
        (O₀ := owedRecv c (rest c 0) + owedBar (rest c k.val))
        (owedRecv c (rest c 0) + owedBar (rest c (k.val + 1))) (by rw [owedBar_step c k hk, add_assoc]; rfl))
      $$ [HO Htok Hpts]
    · isplitr; · iapply (records_inv G K (k, .inl ())); iexact HR
      isplitl [HO]; · iexact HO
      isplitl [Htok]; · iexact Htok
      isplitl [Hpts]; · rw [payload_bar]; iexact Hpts
      iapply (records_reached G K (k, .inl ())); iexact HR
    iintro HO
    iapply Hk
    isplitl [HO]; · iexists W; iexact HO
    iapply Hf; iempintro
  · have hk : k = c := not_not.mp fun h' => h (hP.mpr h')
    subst hk
    rw [dif_neg h]
    unfold Sig
    rw [fam_own, rest_own]
    iintro ⟨-, H⟩ Hk
    iapply Hk; iexact H

/-! ## The transfers -/

/-- After `n` send blocks: for the transfers to come, their source and target and their two duties; for those
    issued, the credit to wait for their departure with. -/
def Snd (c : Dev nD) (n : ℕ) : sProp 𝕄 :=
  iprop((∃ W, owes (c : Thread nD τ) (owedRecv c (rest c n)) W)
    ∗ fam c n (fun j => iprop(sPts c j (G c) ∗ (∃ f, rPts j c f) ∗ dutyTok ER (sendCell c j) 0 j ∗ dutyTok ER (recvCell j c) 0 c))
        (fun j => cred (tallyAt (sendCell c j) () N)))

/-- A transfer from slot `k` of `c` to slot `c` of `k` leaves there what `k` is to receive from `c`. -/
theorem landed_received (c k : Dev nD) (hj hd) (fd : (cc0_scratch1 : Ref sig .tc).ty.Contents (Elt F)) :
    (((k : Thread nD τ).loc cc0_scratch1) ↦[rows c]{fullShare}
        ((rSlot (at3 c) hd).view.write (Elt F) fd ((sSlot (at3 k) hj).view.read (Elt F) (G c)) Finset.univ) : sProp 𝕄)
      ⊢ rPts k c (received G k) := by
  unfold rPts
  refine Entails.of_eq (pointsTo_congr fun i hi => ?_)
  refine (landed_apply k c hj hd (G c) fd i hi).trans ?_
  show G c (moveTo k i) = G ((i : S16x16x256.Idx) 0) (moveTo k i)
  rw [show ((i : S16x16x256.Idx) 0 : Dev nD) = c from Fin.ext (mem_rows.mp hi)]

theorem send_op (c k : Dev nD) (hk : k ≠ c) {n : Dev nD} (hn : n = k)
    {o1 : Fin 1 → ℕ} {h1 : ∀ a, o1 a + S1.size a ≤ S16.size a} (e1 : o1 = ![c.val])
    {o3 : Fin 3 → ℕ} {h3 : ∀ a, o3 a + S1x16x256.size a ≤ S16x16x256.size a} (e3 : o3 = at3 c)
    {hk3 : ∀ a, at3 k a + S1x16x256.size a ≤ S16x16x256.size a}
    {hsc : (rSlot o3 h3).view.ref.isScScratch = false}
    {hsrc : (sSlot (at3 k) hk3).view.WordExact} {hdt : (rSlot o3 h3).view.WordExact}
    {hsem : DmaTarget.Typed .vmem (.dma (semAt cc0_scratch3 o1 h1)) (.remote (Dev.tc n : Thread nD τ) (rSlot o3 h3) (.dma (sendS k)) hsc)}
    {α : Type} (X : Prog (TpuEff nD τ sig (Elt F) Λ₀ .tc) α) (Q : α → sProp 𝕄) :
    iprop(records G K ∗ Snd G c k.val)
      ⊢ iprop((Snd G c (k.val + 1) -∗ wp frame (wpE (defs₀ (F := F)) 𝒱₀ (c : Thread nD τ) none) Set.univ X Q)
        -∗ wp frame (wpE (defs₀ (F := F)) 𝒱₀ (c : Thread nD τ) none) Set.univ
          (.op (.enqueueDma (sSlot (at3 k) hk3) (.remote (Dev.tc n : Thread nD τ) (rSlot o3 h3) (.dma (sendS k)) hsc)
              (.dma (semAt cc0_scratch3 o1 h1)) hsrc hdt hsem) fun _ => X) Q) := by
  subst hn e1 e3
  unfold Snd
  iintro ⟨#HR, ⟨%W, HO⟩, Hf⟩ Hk
  ihave Hf := (fam_step c n hk _ _) $$ Hf
  icases Hf with ⟨⟨Hs, ⟨%fd, Hd⟩, Htok, Htok'⟩, Hf⟩
  have hd1 : n ∈ (sched G).duties (sendCell c n) 0 := by rw [duties_send G c n hk]; exact Finset.mem_singleton_self _
  have hd2 : c ∈ (sched G).duties (recvCell n c) 0 := by rw [duties_recv G n c hk.symm]; exact Finset.mem_singleton_self _
  have es : sPts c n (G c) ⊢ ((sSlot (at3 n) hk3).view.loc (c : Thread nD τ) ↦[(sSlot (at3 n) hk3).view.set]{fullShare} G c : sProp 𝕄) := by
    rw [sSlot_set]; exact BI.Entails.refl _
  have ed : rPts n c fd ⊢ ((rSlot (at3 c) h3).view.loc (n : Thread nD τ) ↦[(rSlot (at3 c) h3).view.set]{fullShare} fd : sProp 𝕄) := by
    rw [rSlot_set]; exact BI.Entails.refl _
  have hp1 : ((sSlot (at3 n) hk3).view.loc (c : Thread nD τ) ↦[(sSlot (at3 n) hk3).view.set]{fullShare} G c : sProp 𝕄)
      ⊢ (sched G).payload (sendCell c n) 0 n := by rw [payload_send, sSlot_set]; exact BI.Entails.refl _
  have hp2 : ((rSlot (at3 c) h3).view.loc (n : Thread nD τ) ↦[(rSlot (at3 c) h3).view.set]{fullShare}
        ((rSlot (at3 c) h3).view.write (Elt F) fd ((sSlot (at3 n) hk3).view.read (Elt F) (G c)) Finset.univ) : sProp 𝕄)
      ⊢ (sched G).payload (recvCell n c) 0 c := by rw [payload_recv, rSlot_set]; exact landed_received G c n _ _ fd
  have hO : owedRecv c (rest c n.val) = owedRecv c (rest c (n.val + 1)) + tallyAt (recvCell n c) () N := owedRecv_step c n hk
  have hsend := (Rounds.wp_send_pointsTo (c' := (n : Thread nD τ)) (Γ := ∅) (defs := defs₀ (F := F)) (Q := Q) (k := fun _ => X) (src := sSlot (at3 n) hk3) (dst := rSlot (at3 c) h3) (hsc := hsc) (hsrc := hsrc) (hdst := hdt) (hsem := hsem)
      (sem := .dma (semAt cc0_scratch3 ![c.val] h1)) (Es := Set.univ) 𝒱₀ ER (sched G) (c : Thread nD τ) none (κ₁ := K (c, .inr (.inl n))) (κ₂ := K (n, .inr (.inr c)))
      (r₁ := 0) (r₂ := 0) (d₁ := n) (d₂ := c) (fs := G c) (fd := fd) (sS := .dma (sendS n)) (q := fullShare)
      hd1 hd2 () () N rfl (amount_dma G c _ n) (amount_dma G n _ c) (O₀ := owedRecv c (rest c n.val)) (owedRecv c (rest c (n.val + 1)))
      hO (W := W) hp1 hp2)
  iapply hsend $$ [Hs Hd HO Htok Htok']
  · isplitr; · iapply (records_inv G K (c, .inr (.inl n))); iexact HR
    isplitr; · iapply (records_inv G K (n, .inr (.inr c))); iexact HR
    isplitl [Hs]; · iapply es; iexact Hs
    isplitl [Hd]; · iapply ed; iexact Hd
    isplitl [HO]; · iexact HO
    isplitl [Htok]; · iexact Htok
    isplitr; · iapply (records_reached G K (c, .inr (.inl n))); iexact HR
    isplitl [Htok']; · iexact Htok'
    iapply (records_reached G K (n, .inr (.inr c))); iexact HR
  iintro ⟨Hc, HO⟩
  iapply Hk
  isplitl [HO]; · iexists W; iexact HO
  iapply Hf; iexact Hc

theorem send_step (c k : Dev nD) (n : ℕ) (hn : n = k.val) {P : Prop} [Decidable P] (hP : P ↔ k ≠ c) {dst : P → Dev nD} (hdst : ∀ h, dst h = k)
    {o1 : P → Fin 1 → ℕ} {h1 : ∀ h a, o1 h a + S1.size a ≤ S16.size a} (e1 : ∀ h, o1 h = ![c.val])
    {o3 : P → Fin 3 → ℕ} {h3 : ∀ h a, o3 h a + S1x16x256.size a ≤ S16x16x256.size a} (e3 : ∀ h, o3 h = at3 c)
    {hk3 : ∀ a, at3 k a + S1x16x256.size a ≤ S16x16x256.size a}
    {hsc : ∀ h, (rSlot (o3 h) (h3 h)).view.ref.isScScratch = false}
    {hsrc : P → (sSlot (at3 k) hk3).view.WordExact} {hdt : ∀ h, (rSlot (o3 h) (h3 h)).view.WordExact}
    {hsem : ∀ h, DmaTarget.Typed .vmem (.dma (semAt cc0_scratch3 (o1 h) (h1 h))) (.remote (Dev.tc (dst h) : Thread nD τ) (rSlot (o3 h) (h3 h)) (.dma (sendS k)) (hsc h))}
    {α : Type} {X : Prog (TpuEff nD τ sig (Elt F) Λ₀ .tc) α} {Q : α → sProp 𝕄} :
    iprop(records G K ∗ Snd G c n)
      ⊢ iprop((Snd G c (n + 1) -∗ wp frame (wpE (defs₀ (F := F)) 𝒱₀ (c : Thread nD τ) none) Set.univ X Q)
        -∗ wp frame (wpE (defs₀ (F := F)) 𝒱₀ (c : Thread nD τ) none) Set.univ
          (if h : P then (Prog.lift (.enqueueDma (sSlot (at3 k) hk3)
              (.remote (Dev.tc (dst h) : Thread nD τ) (rSlot (o3 h) (h3 h)) (.dma (sendS k)) (hsc h))
              (.dma (semAt cc0_scratch3 (o1 h) (h1 h))) (hsrc h) (hdt h) (hsem h)) >>= fun _ => X)
            else X) Q) := by
  subst hn
  by_cases h : P
  · rw [dif_pos h]
    exact send_op G K c k (hP.mp h) (hdst h) (e1 h) (e3 h) X Q
  · have hk : k = c := not_not.mp fun h' => h (hP.mpr h')
    subst hk
    rw [dif_neg h]
    unfold Snd
    rw [fam_own, rest_own]
    iintro ⟨-, H⟩ Hk
    iapply Hk; iexact H

/-! ## The waits for what arrives -/

/-- After `n` receive-wait blocks: the credits and positions of the waits to come; the slots arrived, their
    cells closed. -/
def Rcv (c : Dev nD) (n : ℕ) : sProp 𝕄 :=
  iprop((∃ W, owes (c : Thread nD τ) 0 W)
    ∗ fam c n (fun j => iprop(cred (tallyAt (recvCell c j) () N) ∗ atPos ER (recvCell c j) 0 ∅ 0))
        (fun j => iprop(rPts c j (received G c) ∗ semVal (recvCell c j) 0)))

theorem recv_step (c k : Dev nD) (n : ℕ) (hn : n = k.val) {P : Prop} [Decidable P] (hP : P ↔ k ≠ c)
    {s : Memref sig .tc .vmem S16x256 .bf16} {hk3 : ∀ a, at3 k a + S1x16x256.size a ≤ S16x16x256.size a}
    {hs : P → s.view.WordExact} {hd : P → (rSlot (at3 k) hk3).view.WordExact}
    {α : Type} {X : Prog (TpuEff nD τ sig (Elt F) Λ₀ .tc) α} {Q : α → sProp 𝕄} :
    iprop(records G K ∗ Rcv G c n)
      ⊢ iprop((Rcv G c (n + 1) -∗ wp frame (wpE (defs₀ (F := F)) 𝒱₀ (c : Thread nD τ) none) Set.univ X Q)
        -∗ wp frame (wpE (defs₀ (F := F)) 𝒱₀ (c : Thread nD τ) none) Set.univ
          (if h : P then (Prog.lift (.waitDma2 (recvS k) s (rSlot (at3 k) hk3) (hs h) (hd h)) >>= fun _ => X)
            else X) Q) := by
  subst hn
  by_cases h : P
  · have hk : k ≠ c := hP.mp h
    rw [dif_pos h]
    simp only [Prog.lift, Prog.bind_op, Prog.bind_ret]
    unfold Rcv
    iintro ⟨#HR, ⟨%W, HO⟩, Hf⟩ Hk
    ihave Hf := (fam_step c k hk _ _) $$ Hf
    icases Hf with ⟨⟨Hc, Hat⟩, Hf⟩
    iapply (Rounds.wp_wait_rest_token 𝒱₀ ER (sched G) (c : Thread nD τ) none (κ := K (c, .inr (.inr k)))
        (wpE_waitDma2_eq 𝒱₀ (c : Thread nD τ) none Set.univ) (Set.mem_univ _) () (O := 0) (W := W) (R := 0) (m := 0) (T := ∅)
        (by rw [Nat.zero_add, expect_recv G c k hk])) $$ [Hc HO Hat]
    · isplitr; · iapply (records_inv G K (c, .inr (.inr k))); iexact HR
      isplitl [Hc]; · iexact Hc
      isplitl [HO]; · iexact HO
      isplitr; · rw [MayWait_zero]; iempintro
      iexact Hat
    iintro ⟨HO, Hat, -, Hpay⟩
    ihave Hpay := (Entails.of_eq (rest_recv G c k hk)) $$ Hpay
    imod (Rounds.cell_close ER (sched G) (Set.mem_univ (K (c, .inr (.inr k)))) (fun h => h) (R := 0 + 1) (duties_later G (recvCell c k))) $$ [Hat] with Hz
    · isplitr; · iapply (records_inv G K (c, .inr (.inr k))); iexact HR
      iexact Hat
    iapply Hk
    isplitl [HO]; · iexists _; iexact HO
    iapply Hf
    isplitl [Hpay] <;> iassumption
  · have hk : k = c := not_not.mp fun h' => h (hP.mpr h')
    subst hk
    rw [dif_neg h]
    unfold Rcv
    rw [fam_own]
    iintro ⟨-, H⟩ Hk
    iapply Hk; iexact H

/-! ## The waits for what departs -/

/-- After `n` send-wait blocks: the credits and positions of the waits to come; the slots returned, their cells
    closed. -/
def Dep (c : Dev nD) (n : ℕ) : sProp 𝕄 :=
  iprop((∃ W, owes (c : Thread nD τ) 0 W)
    ∗ fam c n (fun j => iprop(cred (tallyAt (sendCell c j) () N) ∗ atPos ER (sendCell c j) 0 ∅ 0))
        (fun j => iprop(sPts c j (G c) ∗ semVal (sendCell c j) 0)))

theorem depart_step (c k : Dev nD) (n : ℕ) (hn : n = k.val) {P : Prop} [Decidable P] (hP : P ↔ k ≠ c)
    {s : P → Memref sig .tc .vmem S16x256 .bf16} {hk3 : ∀ a, at3 k a + S1x16x256.size a ≤ S16x16x256.size a}
    {hs : ∀ h, (s h).view.WordExact} {hd : P → (sSlot (at3 k) hk3).view.WordExact}
    {α : Type} {X : Prog (TpuEff nD τ sig (Elt F) Λ₀ .tc) α} {Q : α → sProp 𝕄} :
    iprop(records G K ∗ Dep G c n)
      ⊢ iprop((Dep G c (n + 1) -∗ wp frame (wpE (defs₀ (F := F)) 𝒱₀ (c : Thread nD τ) none) Set.univ X Q)
        -∗ wp frame (wpE (defs₀ (F := F)) 𝒱₀ (c : Thread nD τ) none) Set.univ
          (if h : P then (Prog.lift (.waitDma2 (sendS k) (s h) (sSlot (at3 k) hk3) (hs h) (hd h)) >>= fun _ => X)
            else X) Q) := by
  subst hn
  by_cases h : P
  · have hk : k ≠ c := hP.mp h
    rw [dif_pos h]
    simp only [Prog.lift, Prog.bind_op, Prog.bind_ret]
    unfold Dep
    iintro ⟨#HR, ⟨%W, HO⟩, Hf⟩ Hk
    ihave Hf := (fam_step c k hk _ _) $$ Hf
    icases Hf with ⟨⟨Hc, Hat⟩, Hf⟩
    iapply (Rounds.wp_wait_rest_token 𝒱₀ ER (sched G) (c : Thread nD τ) none (κ := K (c, .inr (.inl k)))
        (wpE_waitDma2_eq 𝒱₀ (c : Thread nD τ) none Set.univ) (Set.mem_univ _) () (O := 0) (W := W) (R := 0) (m := 0) (T := ∅)
        (by rw [Nat.zero_add, expect_send G c k hk])) $$ [Hc HO Hat]
    · isplitr; · iapply (records_inv G K (c, .inr (.inl k))); iexact HR
      isplitl [Hc]; · iexact Hc
      isplitl [HO]; · iexact HO
      isplitr; · rw [MayWait_zero]; iempintro
      iexact Hat
    iintro ⟨HO, Hat, -, Hpay⟩
    ihave Hpay := (Entails.of_eq (rest_send G c k hk)) $$ Hpay
    imod (Rounds.cell_close ER (sched G) (Set.mem_univ (K (c, .inr (.inl k)))) (fun h => h) (R := 0 + 1) (duties_later G (sendCell c k))) $$ [Hat] with Hz
    · isplitr; · iapply (records_inv G K (c, .inr (.inl k))); iexact HR
      iexact Hat
    iapply Hk
    isplitl [HO]; · iexists _; iexact HO
    iapply Hf
    isplitl [Hpay] <;> iassumption
  · have hk : k = c := not_not.mp fun h' => h (hP.mpr h')
    subst hk
    rw [dif_neg h]
    unfold Dep
    rw [fam_own]
    iintro ⟨-, H⟩ Hk
    iapply Hk; iexact H

end Cert.Exchange

end
-- ==== Proof.Body.lean ====
/-
  The kernel's body on one device, part by part.

  The printed body is ten parts and a tail, each a sequence of the conditional blocks of `Steps` with a few loads
  and stores of whole buffers between them.  For each part: what it needs, what it leaves, and the value it returns.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- The position on the mesh as the program computes it from the device's number. -/
abbrev vD (c : Dev nD) : BitVec 32 := Scalar.remsi (Scalar.divsi (Dev.word c) 1#32) 16#32

/-- The condition of a block of device number `k` holds on the devices other than `k`. -/
theorem cond_iff (k c : Dev nD) :
    Scalar.cmpi .ne (Scalar.extui (Scalar.cmpi .ne (vD c) (BitVec.ofNat 32 k.val)) : BitVec 32) 0#32 = 1#1 ↔ k ≠ c := by
  revert k c; decide

/-- The offsets computed from the device's position name its own slot. -/
theorem off1_eq (c : Dev nD) : (![(vD c).toNat] : Fin 1 → ℕ) = ![c.val] := by revert c; decide
theorem off3_eq (c : Dev nD) : (![(vD c).toNat, 0, 0] : Fin 3 → ℕ) = at3 c := by revert c; decide
theorem off33_eq (c : Dev nD) : k0_off33 c = at3 c := by revert c; decide

/-! ## Loads and stores of whole buffers -/

theorem zero2 : (![0, 0] : Fin 2 → Nat) = fun _ => 0 := funext fun a => by fin_cases a <;> rfl
theorem zero3 : (![0, 0, 0] : Fin 3 → Nat) = fun _ => 0 := funext fun a => by fin_cases a <;> rfl

theorem read0 (X : (cc0_stg0_0 : Ref sig .tc).ty.Contents (Elt F)) :
    (Memref.whole cc0_stg0_0 : Memref sig .tc .vmem S256x128 .bf16).view.readAt (Elt F) (Rect.unit (s := S256x128) ![0, 0] S256x128.size inb_S256x128_S256x128_0_0).toLoadRect X = X :=
  Memref.readAt_unit_zero (Elt F) cc0_stg0_0 zero2 _ X
theorem read1 (X : (cc0_stg1_0 : Ref sig .tc).ty.Contents (Elt F)) :
    (Memref.whole cc0_stg1_0 : Memref sig .tc .vmem S128x32 .bf16).view.readAt (Elt F) (Rect.unit (s := S128x32) ![0, 0] S128x32.size inb_S128x32_S128x32_0_0).toLoadRect X = X :=
  Memref.readAt_unit_zero (Elt F) cc0_stg1_0 zero2 _ X
theorem read2 (X : (cc0_stg2_0 : Ref sig .tc).ty.Contents (Elt F)) :
    (Memref.whole cc0_stg2_0 : Memref sig .tc .vmem S256x1 .i32).view.readAt (Elt F) (Rect.unit (s := S256x1) ![0, 0] S256x1.size inb_S256x1_S256x1_0_0).toLoadRect X = X :=
  Memref.readAt_unit_zero (Elt F) cc0_stg2_0 zero2 _ X
theorem read4 (X : (cc0_stg4_0 : Ref sig .tc).ty.Contents (Elt F)) :
    (Memref.whole cc0_stg4_0 : Memref sig .tc .vmem S128x256 .bf16).view.readAt (Elt F) (Rect.unit (s := S128x256) ![0, 0] S128x256.size inb_S128x256_S128x256_0_0).toLoadRect X = X :=
  Memref.readAt_unit_zero (Elt F) cc0_stg4_0 zero2 _ X
theorem read7 (X : (cc0_scratch1 : Ref sig .tc).ty.Contents (Elt F)) :
    (Memref.whole cc0_scratch1 : Memref sig .tc .vmem S16x16x256 .bf16).view.readAt (Elt F) (Rect.unit (s := S16x16x256) ![0, 0, 0] S16x16x256.size inb_S16x16x256_S16x16x256_0_0_0).toLoadRect X = X :=
  Memref.readAt_unit_zero (Elt F) cc0_scratch1 zero3 _ X
theorem write5 (f w : (cc0_stg5_0 : Ref sig .tc).ty.Contents (Elt F)) :
    ((Memref.whole cc0_stg5_0 : Memref sig .tc .vmem S16x256 .f32).access (Rect.unit (s := S16x256) ![0, 0] S16x256.size inb_S16x256_S16x256_0_0) : View sig .tc _ _ _).write
      (Elt F) f w Finset.univ = w :=
  Memref.write_access_unit_zero_univ (Elt F) cc0_stg5_0 zero2 _ f w
theorem write6 (f w : (cc0_scratch0 : Ref sig .tc).ty.Contents (Elt F)) :
    ((Memref.whole cc0_scratch0 : Memref sig .tc .vmem S16x16x256 .bf16).access (Rect.unit (s := S16x16x256) ![0, 0, 0] S16x16x256.size inb_S16x16x256_S16x16x256_0_0_0) : View sig .tc _ _ _).write
      (Elt F) f w Finset.univ = w :=
  Memref.write_access_unit_zero_univ (Elt F) cc0_scratch0 zero3 _ f w

variable (G : Dev nD → (cc0_scratch0 : Ref sig .tc).ty.Contents (Elt F)) (K : Dev nD × CIx → ℕ)

/-- Buffer `b` of device `c`, whole, holding `X`. -/
abbrev stg (c : Dev nD) (b : Ref sig .tc) (X : b.ty.Contents (Elt F)) : sProp 𝕄 :=
  ((c : Thread nD τ).loc b) ↦{fullShare} X

/-- The two expert matrices of a device's block of the expert weights. -/
abbrev expert0 (X : (cc0_stg3_0 : Ref sig .tc).ty.Contents (Elt F)) : Vec F S1x128x256 .bf16 :=
  (Memref.whole cc0_stg3_0 : Memref sig .tc .vmem S2x128x256 .bf16).view.readAt (Elt F)
    (Rect.unit (s := S2x128x256) ![0, 0, 0] S1x128x256.size inb_S2x128x256_S1x128x256_0_0_0).toLoadRect X
abbrev expert1 (X : (cc0_stg3_0 : Ref sig .tc).ty.Contents (Elt F)) : Vec F S1x128x256 .bf16 :=
  (Memref.whole cc0_stg3_0 : Memref sig .tc .vmem S2x128x256 .bf16).view.readAt (Elt F)
    (Rect.unit (s := S2x128x256) ![1, 0, 0] S1x128x256.size inb_S2x128x256_S1x128x256_1_0_0).toLoadRect X
/-- The sixteen rows of the tokens that device `c` outputs. -/
abbrev ownRows (c : Dev nD) (X : (cc0_stg0_0 : Ref sig .tc).ty.Contents (Elt F)) : Vec F S16x128 .bf16 :=
  (Memref.whole cc0_stg0_0 : Memref sig .tc .vmem S256x128 .bf16).view.readAt (Elt F)
    (Rect.unit (s := S256x128) (k0_off34 c) S16x128.size (k0_off34_inb c)).toLoadRect X

/-! ## The parts -/

set_option maxHeartbeats 2000000 in
/-- Part 1 signals the devices 0 to 7. -/
theorem part1 (c : Dev nD) (Q) :
    iprop(records G K ∗ Sig c 0)
      ⊢ iprop((iprop(records G K ∗ Sig c 8) -∗ Q ⟨c, vD c, SemArray.scalar (sig.barrier 0 rfl)⟩)
        -∗ wp frame (wpE (defs₀ (F := F)) 𝒱₀ (c : Thread nD τ) none) Set.univ
          (k0_part1 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Q) := by
  simp only [k0_part1_eq_skeleton]; unfold k0_part1_skel
  iintro H Hk
  rw [Prog.lift, Prog.bind_op, wp_deviceId, Prog.bind_ret]
  iapply (carry (signal_step G K c 0 0 rfl (cond_iff 0 c) (fun _ => rfl))) $$ H; iintro H
  iapply (carry (signal_step G K c 1 1 rfl (cond_iff 1 c) (fun _ => rfl))) $$ H; iintro H
  iapply (carry (signal_step G K c 2 2 rfl (cond_iff 2 c) (fun _ => rfl))) $$ H; iintro H
  iapply (carry (signal_step G K c 3 3 rfl (cond_iff 3 c) (fun _ => rfl))) $$ H; iintro H
  iapply (carry (signal_step G K c 4 4 rfl (cond_iff 4 c) (fun _ => rfl))) $$ H; iintro H
  iapply (carry (signal_step G K c 5 5 rfl (cond_iff 5 c) (fun _ => rfl))) $$ H; iintro H
  iapply (carry (signal_step G K c 6 6 rfl (cond_iff 6 c) (fun _ => rfl))) $$ H; iintro H
  iapply (carry (signal_step G K c 7 7 rfl (cond_iff 7 c) (fun _ => rfl))) $$ H; iintro H
  rw [Prog.pure_eq_ret, wp_ret]; imodintro
  iapply Hk; iexact H

set_option maxHeartbeats 2000000 in
/-- Part 2 signals the devices 8 to 15 and loads the tokens and the router's weights. -/
theorem part2 (c : Dev nD) (X0 : (cc0_stg0_0 : Ref sig .tc).ty.Contents (Elt F)) (X1 : (cc0_stg1_0 : Ref sig .tc).ty.Contents (Elt F)) (Q) :
    iprop((records G K ∗ Sig c 8) ∗ stg c cc0_stg0_0 X0 ∗ stg c cc0_stg1_0 X1)
      ⊢ iprop((iprop((records G K ∗ Sig c 16) ∗ stg c cc0_stg0_0 X0 ∗ stg c cc0_stg1_0 X1) -∗ Q ⟨k0_pay1 X0, k0_pay2 X0 X1⟩)
        -∗ wp frame (wpE (defs₀ (F := F)) 𝒱₀ (c : Thread nD τ) none) Set.univ
          (k0_part2 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c (vD c) (SemArray.scalar (sig.barrier 0 rfl))) Q) := by
  simp only [k0_part2_eq_skeleton]; unfold k0_part2_skel
  iintro ⟨H, H0, H1⟩ Hk
  iapply (carry (signal_step G K c 8 8 rfl (cond_iff 8 c) (fun _ => rfl))) $$ H; iintro H
  iapply (carry (signal_step G K c 9 9 rfl (cond_iff 9 c) (fun _ => rfl))) $$ H; iintro H
  iapply (carry (signal_step G K c 10 10 rfl (cond_iff 10 c) (fun _ => rfl))) $$ H; iintro H
  iapply (carry (signal_step G K c 11 11 rfl (cond_iff 11 c) (fun _ => rfl))) $$ H; iintro H
  iapply (carry (signal_step G K c 12 12 rfl (cond_iff 12 c) (fun _ => rfl))) $$ H; iintro H
  iapply (carry (signal_step G K c 13 13 rfl (cond_iff 13 c) (fun _ => rfl))) $$ H; iintro H
  iapply (carry (signal_step G K c 14 14 rfl (cond_iff 14 c) (fun _ => rfl))) $$ H; iintro H
  iapply (carry (signal_step G K c 15 15 rfl (cond_iff 15 c) (fun _ => rfl))) $$ H; iintro H
  simp only [Prog.lift, Prog.bind_op, Prog.bind_ret, Prog.pure_eq_ret]
  iapply (wp_load 𝒱₀ (c : Thread nD τ) none Set.univ (m := (Memref.whole cc0_stg0_0 : Memref sig .tc .vmem S256x128 .bf16)) (Finset.subset_univ _)) $$ H0; iintro H0
  rw [read0]
  iapply (wp_load 𝒱₀ (c : Thread nD τ) none Set.univ (m := (Memref.whole cc0_stg1_0 : Memref sig .tc .vmem S128x32 .bf16)) (Finset.subset_univ _)) $$ H1; iintro H1
  rw [read1, wp_ret]; imodintro
  iapply Hk
  isplitl [H]; · iexact H
  isplitl [H0] <;> iassumption

set_option maxHeartbeats 2000000 in
/-- Part 3 loads the expert indices and the device's two experts, and returns what is to be sent. -/
theorem part3 (c : Dev nD) (v53 : FVec F S256x128 .bf16) (v61 : FVec F S256x32 .f32)
    (X2 : (cc0_stg2_0 : Ref sig .tc).ty.Contents (Elt F)) (X3 : (cc0_stg3_0 : Ref sig .tc).ty.Contents (Elt F))
    (f : (cc0_scratch0 : Ref sig .tc).ty.Contents (Elt F)) (Q) :
    iprop(stg c cc0_stg2_0 X2 ∗ stg c cc0_stg3_0 X3 ∗ stg c cc0_scratch0 f)
      ⊢ iprop((iprop(stg c cc0_stg2_0 X2 ∗ stg c cc0_stg3_0 X3 ∗ stg c cc0_scratch0 f)
          -∗ Q (k0_pay3 (vD c) v53 v61 X2 (expert0 X3) (expert1 X3)))
        -∗ wp frame (wpE (defs₀ (F := F)) 𝒱₀ (c : Thread nD τ) none) Set.univ
          (k0_part3 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 (vD c) v53 v61) Q) := by
  simp only [k0_part3_eq_skeleton]; unfold k0_part3_skel
  iintro ⟨H2, H3, Hs⟩ Hk
  simp only [Prog.lift, Prog.bind_op, Prog.bind_ret, Prog.pure_eq_ret]
  iapply (wp_load 𝒱₀ (c : Thread nD τ) none Set.univ (m := (Memref.whole cc0_stg2_0 : Memref sig .tc .vmem S256x1 .i32)) (Finset.subset_univ _)) $$ H2; iintro H2
  rw [read2]
  iapply (wp_load 𝒱₀ (c : Thread nD τ) none Set.univ (m := (Memref.whole cc0_stg3_0 : Memref sig .tc .vmem S2x128x256 .bf16)) (Finset.subset_univ _)) $$ H3; iintro H3
  iapply (wp_load 𝒱₀ (c : Thread nD τ) none Set.univ (m := (Memref.whole cc0_stg3_0 : Memref sig .tc .vmem S2x128x256 .bf16)) (Finset.subset_univ _)) $$ H3; iintro H3
  iapply (wp_load 𝒱₀ (c : Thread nD τ) none Set.univ (m := (Memref.whole cc0_scratch0 : Memref sig .tc .vmem S16x16x256 .bf16)) (Finset.subset_univ _)) $$ Hs; iintro Hs
  rw [wp_ret]; imodintro
  iapply Hk
  isplitl [H2]; · iexact H2
  isplitl [H3] <;> iassumption

/-! ## The buffers cut into slots -/

/-- The send buffer is its own slot and those for the other devices; -/
theorem cut_send (c : Dev nD) (f : (cc0_scratch0 : Ref sig .tc).ty.Contents (Elt F)) :
    stg c cc0_scratch0 f = iprop(sPts c c f ∗ bigSep (Finset.univ.erase c) fun j => sPts c j f) := by
  refine (Ring.pointsTo_blocks (ℓ := (c : Thread nD τ).loc cc0_scratch0) rows rows_disjoint rows_cover f).trans ?_
  rw [bigSep_erase (Finset.mem_univ c)]; rfl
/-- likewise the receive buffer. -/
theorem cut_recv (c : Dev nD) (f : (cc0_scratch1 : Ref sig .tc).ty.Contents (Elt F)) :
    stg c cc0_scratch1 f = iprop(rPts c c f ∗ bigSep (Finset.univ.erase c) fun j => rPts c j f) := by
  refine (Ring.pointsTo_blocks (ℓ := (c : Thread nD τ).loc cc0_scratch1) rows rows_disjoint rows_cover f).trans ?_
  rw [bigSep_erase (Finset.mem_univ c)]; rfl

/-- Three families over the same devices are one family of triples. -/
theorem zip3 (S : Finset (Dev nD)) (A B C : Dev nD → sProp 𝕄) :
    iprop(bigSep S A ∗ bigSep S B ∗ bigSep S C) ⊢ bigSep S fun j => iprop(A j ∗ B j ∗ C j) := by
  rw [bigSep_sep', bigSep_sep']
/-- Two families over the same devices are one family of pairs. -/
theorem zip2 (S : Finset (Dev nD)) (A B : Dev nD → sProp 𝕄) :
    iprop(bigSep S A ∗ bigSep S B) = bigSep S fun j => iprop(A j ∗ B j) := by
  rw [bigSep_sep']

/-! ## The parts, continued -/

set_option maxHeartbeats 4000000 in
/-- Part 4 fills the send buffer, waits for the other devices' signals, which bring their slots, and sends to the
    devices 0 to 6. -/
theorem part4 (c : Dev nD) (f : (cc0_scratch0 : Ref sig .tc).ty.Contents (Elt F)) (Q) :
    iprop((records G K ∗ Sig c 16) ∗ levAts L lv ∗ stg c cc0_scratch0 f ∗ cred (tallyAt (barCell c) () 15) ∗ atPos ER (barCell c) 0 ∅ 0
        ∗ bigSep (Finset.univ.erase c) fun j => iprop(dutyTok ER (sendCell c j) 0 j ∗ dutyTok ER (recvCell j c) 0 c))
      ⊢ iprop((iprop((records G K ∗ Snd G c 7) ∗ sPts c c (G c) ∗ semVal (barCell c) 0) -∗ Q ⟨⟩)
        -∗ wp frame (wpE (defs₀ (F := F)) 𝒱₀ (c : Thread nD τ) none) Set.univ
          (k0_part4 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c (vD c) (SemArray.scalar (sig.barrier 0 rfl)) (G c)) Q) := by
  simp only [k0_part4_eq_skeleton]; unfold k0_part4_skel
  iintro ⟨⟨#HR, H⟩, #Hlev, Hs, Hc, Hat, Ht⟩ Hk
  iapply (wp_store 𝒱₀ (c : Thread nD τ) none Set.univ (m := (Memref.whole cc0_scratch0 : Memref sig .tc .vmem S16x16x256 .bf16))
    (r := Rect.unit (s := S16x16x256) ![0, 0, 0] S16x16x256.size inb_S16x16x256_S16x16x256_0_0_0) (Mk := Finset.univ) (Finset.subset_univ _)) $$ Hs; iintro Hs
  ihave Hs := (Entails.of_eq (congrArg (stg c cc0_scratch0) (write6 f (G c)))) $$ Hs
  unfold Sig
  rw [owedBar_end, add_zero]
  icases H with ⟨⟨%W, HO⟩, -⟩
  iapply (Rounds.wp_wait_rest_token 𝒱₀ ER (sched G) (c : Thread nD τ) none (κ := K (c, .inl ()))
      (wpE_semWait_eq 𝒱₀ (c : Thread nD τ) none Set.univ) (Set.mem_univ _) () (O := owedRecv c (rest c 0)) (W := W) (R := 0) (m := 0) (T := ∅)
      (by rw [expect_bar]; decide)) $$ [Hc HO Hat]
  · isplitr; · iapply (records_inv G K (c, .inl ())); iexact HR
    isplitl [Hc]; · iexact Hc
    isplitl [HO]; · iexact HO
    isplitr; · iapply (mayWait_bar c); iexact Hlev
    iexact Hat
  iintro ⟨HO, Hat, -, Hpay⟩
  ihave Hpay := (Entails.of_eq (rest_bar G c)) $$ Hpay
  imod (Rounds.cell_close ER (sched G) (Set.mem_univ (K (c, .inl ()))) (fun h => h) (R := 0 + 1) (duties_later G (barCell c))) $$ [Hat] with Hz
  · isplitr; · iapply (records_inv G K (c, .inl ())); iexact HR
    iexact Hat
  ihave Hs := (Entails.of_eq (cut_send c (G c))) $$ Hs
  icases Hs with ⟨Hown, Hs⟩
  ihave H : iprop(records G K ∗ Snd G c 0) $$ [HO Hpay Hs Ht]
  · isplitr; · iexact HR
    unfold Snd
    rw [fam_zero]
    isplitl [HO]; · iexists _; iexact HO
    iapply (zip3 (Finset.univ.erase c) (fun j => sPts c j (G c)) (fun j => iprop(∃ f, rPts j c f))
      (fun j => iprop(dutyTok ER (sendCell c j) 0 j ∗ dutyTok ER (recvCell j c) 0 c)))
    isplitl [Hs]; · iexact Hs
    isplitl [Hpay] <;> iassumption
  iapply (carry (send_step G K c 0 0 rfl (cond_iff 0 c) (fun _ => rfl) (fun _ => off1_eq c) (fun _ => off3_eq c))) $$ H; iintro H
  iapply (carry (send_step G K c 1 1 rfl (cond_iff 1 c) (fun _ => rfl) (fun _ => off1_eq c) (fun _ => off3_eq c))) $$ H; iintro H
  iapply (carry (send_step G K c 2 2 rfl (cond_iff 2 c) (fun _ => rfl) (fun _ => off1_eq c) (fun _ => off3_eq c))) $$ H; iintro H
  iapply (carry (send_step G K c 3 3 rfl (cond_iff 3 c) (fun _ => rfl) (fun _ => off1_eq c) (fun _ => off3_eq c))) $$ H; iintro H
  iapply (carry (send_step G K c 4 4 rfl (cond_iff 4 c) (fun _ => rfl) (fun _ => off1_eq c) (fun _ => off3_eq c))) $$ H; iintro H
  iapply (carry (send_step G K c 5 5 rfl (cond_iff 5 c) (fun _ => rfl) (fun _ => off1_eq c) (fun _ => off3_eq c))) $$ H; iintro H
  iapply (carry (send_step G K c 6 6 rfl (cond_iff 6 c) (fun _ => rfl) (fun _ => off1_eq c) (fun _ => off3_eq c))) $$ H; iintro H
  rw [Prog.pure_eq_ret, wp_ret]; imodintro
  iapply Hk
  isplitl [H]; · iexact H
  isplitl [Hown] <;> iassumption

set_option maxHeartbeats 4000000 in
/-- Part 5 sends to the devices 7 to 13. -/
theorem part5 (c : Dev nD) (Q) :
    iprop(records G K ∗ Snd G c 7)
      ⊢ iprop((iprop(records G K ∗ Snd G c 14) -∗ Q (Scalar.extui (Scalar.cmpi .ne (vD c) 14#32)))
        -∗ wp frame (wpE (defs₀ (F := F)) 𝒱₀ (c : Thread nD τ) none) Set.univ
          (k0_part5 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c (vD c)) Q) := by
  simp only [k0_part5_eq_skeleton]; unfold k0_part5_skel
  iintro H Hk
  iapply (carry (send_step G K c 7 7 rfl (cond_iff 7 c) (fun _ => rfl) (fun _ => off1_eq c) (fun _ => off3_eq c))) $$ H; iintro H
  iapply (carry (send_step G K c 8 8 rfl (cond_iff 8 c) (fun _ => rfl) (fun _ => off1_eq c) (fun _ => off3_eq c))) $$ H; iintro H
  iapply (carry (send_step G K c 9 9 rfl (cond_iff 9 c) (fun _ => rfl) (fun _ => off1_eq c) (fun _ => off3_eq c))) $$ H; iintro H
  iapply (carry (send_step G K c 10 10 rfl (cond_iff 10 c) (fun _ => rfl) (fun _ => off1_eq c) (fun _ => off3_eq c))) $$ H; iintro H
  iapply (carry (send_step G K c 11 11 rfl (cond_iff 11 c) (fun _ => rfl) (fun _ => off1_eq c) (fun _ => off3_eq c))) $$ H; iintro H
  iapply (carry (send_step G K c 12 12 rfl (cond_iff 12 c) (fun _ => rfl) (fun _ => off1_eq c) (fun _ => off3_eq c))) $$ H; iintro H
  iapply (carry (send_step G K c 13 13 rfl (cond_iff 13 c) (fun _ => rfl) (fun _ => off1_eq c) (fun _ => off3_eq c))) $$ H; iintro H
  rw [Prog.pure_eq_ret, wp_ret]; imodintro
  iapply Hk; iexact H

end Cert.Exchange

end
-- ==== Proof.Body2.lean ====
/-
  The kernel's body on one device, from the last transfers to the end.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (G : Dev nD → (cc0_scratch0 : Ref sig .tc).ty.Contents (Elt F)) (K : Dev nD × CIx → ℕ)

/-- The device's own slot, copied over without a transfer, holds what the device receives from itself. -/
theorem copied_received (c : Dev nD) (h h') (f : (cc0_scratch1 : Ref sig .tc).ty.Contents (Elt F)) :
    (((c : Thread nD τ).loc cc0_scratch1) ↦[rows c]{fullShare}
        (((Memref.whole cc0_scratch1 : Memref sig .tc .vmem S16x16x256 .bf16).access
          (Rect.unit (s := S16x16x256) (at3 c) S1x16x256.size h)).write (Elt F) f
        (k0_pay4 ((Memref.whole cc0_scratch0 : Memref sig .tc .vmem S16x16x256 .bf16).view.readAt (Elt F)
          (Rect.unit (s := S16x16x256) (at3 c) S1x16x256.size h').toLoadRect (G c))) Finset.univ) : sProp 𝕄)
      ⊢ rPts c c (received G c) := by
  unfold rPts
  refine Entails.of_eq (pointsTo_congr fun i hi => ?_)
  refine (copied_apply c h h' (G c) f i hi).trans ?_
  show G c (moveTo c i) = G ((i : S16x16x256.Idx) 0) (moveTo c i)
  rw [show ((i : S16x16x256.Idx) 0 : Dev nD) = c from Fin.ext (mem_rows.mp hi)]

/-- The copy, at offsets that name the device's own slot. -/
theorem copy_step (c : Dev nD) {o : Fin 3 → ℕ} (e : o = at3 c) {h : ∀ a, o a + S1x16x256.size a ≤ S16x16x256.size a}
    {hl hl' hx hm} {α : Type} {X : Prog (TpuEff nD τ sig (Elt F) Λ₀ .tc) α} {Q : α → sProp 𝕄} :
    iprop(sPts c c (G c) ∗ ∃ f, rPts c c f)
      ⊢ iprop((iprop(sPts c c (G c) ∗ rPts c c (received G c)) -∗ wp frame (wpE (defs₀ (F := F)) 𝒱₀ (c : Thread nD τ) none) Set.univ X Q)
        -∗ wp frame (wpE (defs₀ (F := F)) 𝒱₀ (c : Thread nD τ) none) Set.univ
          (.op (.load (Memref.whole cc0_scratch0 : Memref sig .tc .vmem S16x16x256 .bf16) (Rect.unit (s := S16x16x256) o S1x16x256.size h).toLoadRect hl) fun v =>
            .op (.load (Memref.whole cc0_scratch1 : Memref sig .tc .vmem S16x16x256 .bf16) (Rect.unit (s := S16x16x256) o S1x16x256.size h).toLoadRect hl') fun _ =>
            .op (.store (Memref.whole cc0_scratch1 : Memref sig .tc .vmem S16x16x256 .bf16) (Rect.unit (s := S16x16x256) o S1x16x256.size h)
              (k0_pay4 v) Finset.univ hx hm) fun _ => X) Q) := by
  subst e
  unfold sPts
  iintro ⟨Hs, ⟨%f, Hr⟩⟩ Hk
  iapply (wp_load 𝒱₀ (c : Thread nD τ) none Set.univ (m := (Memref.whole cc0_scratch0 : Memref sig .tc .vmem S16x16x256 .bf16))
    (load_send_set c h).subset) $$ Hs; iintro Hs
  unfold rPts
  iapply (wp_load 𝒱₀ (c : Thread nD τ) none Set.univ (m := (Memref.whole cc0_scratch1 : Memref sig .tc .vmem S16x16x256 .bf16))
    (load_recv_set c h).subset) $$ Hr; iintro Hr
  iapply (wp_store 𝒱₀ (c : Thread nD τ) none Set.univ (m := (Memref.whole cc0_scratch1 : Memref sig .tc .vmem S16x16x256 .bf16))
    (r := Rect.unit (s := S16x16x256) (at3 c) S1x16x256.size h) (Mk := Finset.univ) (store_recv_set c h).subset) $$ Hr; iintro Hr
  iapply Hk
  isplitl [Hs]; · iexact Hs
  ihave Hr := (copied_received G c h h f) $$ Hr
  unfold rPts
  iexact Hr

set_option maxHeartbeats 4000000 in
/-- Part 6 sends to the devices 14 and 15, copies the device's own slot, loads the shared weights and waits for what
    devices 0 and 1 sent. -/
theorem part6 (c : Dev nD) (v147 : BitVec 32) (X0 : (cc0_stg0_0 : Ref sig .tc).ty.Contents (Elt F)) (X4 : (cc0_stg4_0 : Ref sig .tc).ty.Contents (Elt F)) (Q) :
    iprop((records G K ∗ Snd G c 14) ∗ sPts c c (G c) ∗ (∃ f, rPts c c f) ∗ stg c cc0_stg0_0 X0 ∗ stg c cc0_stg4_0 X4
        ∗ bigSep (Finset.univ.erase c) fun j => iprop(cred (tallyAt (recvCell c j) () N) ∗ atPos ER (recvCell c j) 0 ∅ 0))
      ⊢ iprop((iprop((records G K ∗ Rcv G c 2) ∗ sPts c c (G c) ∗ rPts c c (received G c) ∗ stg c cc0_stg0_0 X0 ∗ stg c cc0_stg4_0 X4
            ∗ bigSep (Finset.univ.erase c) fun j => cred (tallyAt (sendCell c j) () N))
          -∗ Q ⟨k0_pay5 (ownRows c X0) X4, Scalar.extui (Scalar.cmpi .ne (vD c) 2#32)⟩)
        -∗ wp frame (wpE (defs₀ (F := F)) 𝒱₀ (c : Thread nD τ) none) Set.univ
          (k0_part6 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c (vD c) v147) Q) := by
  simp only [k0_part6_eq_skeleton]; unfold k0_part6_skel
  iintro ⟨H, Hs, Hr, H0, H4, Hc⟩ Hk
  iapply (carry (send_step G K c 14 14 rfl (cond_iff 14 c) (fun _ => rfl) (fun _ => off1_eq c) (fun _ => off3_eq c))) $$ H; iintro H
  iapply (carry (send_step G K c 15 15 rfl (cond_iff 15 c) (fun _ => rfl) (fun _ => off1_eq c) (fun _ => off3_eq c))) $$ H; iintro H
  iapply (copy_step G c (off33_eq c)) $$ [Hs Hr]
  · isplitl [Hs] <;> iassumption
  iintro ⟨Hs, Hr⟩
  iapply (wp_load 𝒱₀ (c : Thread nD τ) none Set.univ (m := (Memref.whole cc0_stg0_0 : Memref sig .tc .vmem S256x128 .bf16)) (Finset.subset_univ _)) $$ H0; iintro H0
  iapply (wp_load 𝒱₀ (c : Thread nD τ) none Set.univ (m := (Memref.whole cc0_stg4_0 : Memref sig .tc .vmem S128x256 .bf16)) (Finset.subset_univ _)) $$ H4; iintro H4
  icases H with ⟨#HR, H⟩
  unfold Snd
  rw [fam_end, owedRecv_end]
  icases H with ⟨HO, Hd⟩
  ihave H : iprop(records G K ∗ Rcv G c 0) $$ [HO Hc]
  · isplitr; · iexact HR
    unfold Rcv
    rw [fam_zero]
    isplitl [HO] <;> iassumption
  iapply (carry (recv_step G K c 0 0 rfl (cond_iff 0 c))) $$ H; iintro H
  iapply (carry (recv_step G K c 1 1 rfl (cond_iff 1 c))) $$ H; iintro H
  rw [Prog.pure_eq_ret, wp_ret]; imodintro
  rw [read4]
  iapply Hk
  isplitl [H]; · iexact H
  isplitl [Hs]; · iexact Hs
  isplitl [Hr]; · iexact Hr
  isplitl [H0]; · iexact H0
  isplitl [H4] <;> iassumption

set_option maxHeartbeats 4000000 in
/-- Part 7 waits for what the devices 2 to 7 sent. -/
theorem part7 (c : Dev nD) (Q) :
    iprop(records G K ∗ Rcv G c 2)
      ⊢ iprop((iprop(records G K ∗ Rcv G c 8) -∗ Q (Scalar.extui (Scalar.cmpi .ne (vD c) 8#32)))
        -∗ wp frame (wpE (defs₀ (F := F)) 𝒱₀ (c : Thread nD τ) none) Set.univ
          (k0_part7 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 (vD c) (Scalar.extui (Scalar.cmpi .ne (vD c) 2#32))) Q) := by
  simp only [k0_part7_eq_skeleton]; unfold k0_part7_skel
  iintro H Hk
  iapply (carry (recv_step G K c 2 2 rfl (cond_iff 2 c))) $$ H; iintro H
  iapply (carry (recv_step G K c 3 3 rfl (cond_iff 3 c))) $$ H; iintro H
  iapply (carry (recv_step G K c 4 4 rfl (cond_iff 4 c))) $$ H; iintro H
  iapply (carry (recv_step G K c 5 5 rfl (cond_iff 5 c))) $$ H; iintro H
  iapply (carry (recv_step G K c 6 6 rfl (cond_iff 6 c))) $$ H; iintro H
  iapply (carry (recv_step G K c 7 7 rfl (cond_iff 7 c))) $$ H; iintro H
  rw [Prog.pure_eq_ret, wp_ret]; imodintro
  iapply Hk; iexact H

set_option maxHeartbeats 4000000 in
/-- Part 8 waits for what the devices 8 to 13 sent. -/
theorem part8 (c : Dev nD) (Q) :
    iprop(records G K ∗ Rcv G c 8)
      ⊢ iprop((iprop(records G K ∗ Rcv G c 14) -∗ Q (Scalar.extui (Scalar.cmpi .ne (vD c) 14#32)))
        -∗ wp frame (wpE (defs₀ (F := F)) 𝒱₀ (c : Thread nD τ) none) Set.univ
          (k0_part8 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 (vD c) (Scalar.extui (Scalar.cmpi .ne (vD c) 8#32))) Q) := by
  simp only [k0_part8_eq_skeleton]; unfold k0_part8_skel
  iintro H Hk
  iapply (carry (recv_step G K c 8 8 rfl (cond_iff 8 c))) $$ H; iintro H
  iapply (carry (recv_step G K c 9 9 rfl (cond_iff 9 c))) $$ H; iintro H
  iapply (carry (recv_step G K c 10 10 rfl (cond_iff 10 c))) $$ H; iintro H
  iapply (carry (recv_step G K c 11 11 rfl (cond_iff 11 c))) $$ H; iintro H
  iapply (carry (recv_step G K c 12 12 rfl (cond_iff 12 c))) $$ H; iintro H
  iapply (carry (recv_step G K c 13 13 rfl (cond_iff 13 c))) $$ H; iintro H
  rw [Prog.pure_eq_ret, wp_ret]; imodintro
  iapply Hk; iexact H

set_option maxHeartbeats 4000000 in
/-- Part 9 waits for what the devices 14 and 15 sent, stores the device's rows of the result, and waits for the
    departure of what it sent to the devices 0 to 3. -/
theorem part9 (c : Dev nD) (v165 : FVec F S16x256 .f32) (f5 : (cc0_stg5_0 : Ref sig .tc).ty.Contents (Elt F)) (Q) :
    iprop((records G K ∗ Rcv G c 14) ∗ rPts c c (received G c) ∗ stg c cc0_stg5_0 f5
        ∗ (bigSep (Finset.univ.erase c) fun j => cred (tallyAt (sendCell c j) () N))
        ∗ bigSep (Finset.univ.erase c) fun j => atPos ER (sendCell c j) 0 ∅ 0)
      ⊢ iprop((iprop((records G K ∗ Dep G c 4) ∗ stg c cc0_scratch1 (received G c) ∗ stg c cc0_stg5_0 (k0_pay6 v165 (received G c))
            ∗ bigSep (Finset.univ.erase c) fun j => semVal (recvCell c j) 0) -∗ Q ⟨⟩)
        -∗ wp frame (wpE (defs₀ (F := F)) 𝒱₀ (c : Thread nD τ) none) Set.univ
          (k0_part9 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c (vD c) v165 (Scalar.extui (Scalar.cmpi .ne (vD c) 14#32))) Q) := by
  simp only [k0_part9_eq_skeleton]; unfold k0_part9_skel
  iintro ⟨H, Hr, H5, Hc, Hat⟩ Hk
  iapply (carry (recv_step G K c 14 14 rfl (cond_iff 14 c))) $$ H; iintro H
  iapply (carry (recv_step G K c 15 15 rfl (cond_iff 15 c))) $$ H; iintro H
  icases H with ⟨#HR, H⟩
  unfold Rcv
  rw [fam_end, ← zip2]
  icases H with ⟨HO, Hrs, Hz⟩
  ihave Hr := (Entails.of_eq (cut_recv c (received G c)).symm) $$ [Hr Hrs]
  · isplitl [Hr] <;> iassumption
  iapply (wp_load 𝒱₀ (c : Thread nD τ) none Set.univ (m := (Memref.whole cc0_scratch1 : Memref sig .tc .vmem S16x16x256 .bf16)) (Finset.subset_univ _)) $$ Hr; iintro Hr
  iapply (wp_load 𝒱₀ (c : Thread nD τ) none Set.univ (m := (Memref.whole cc0_stg5_0 : Memref sig .tc .vmem S16x256 .f32)) (Finset.subset_univ _)) $$ H5; iintro H5
  iapply (wp_store 𝒱₀ (c : Thread nD τ) none Set.univ (m := (Memref.whole cc0_stg5_0 : Memref sig .tc .vmem S16x256 .f32))
    (r := Rect.unit (s := S16x256) ![0, 0] S16x256.size inb_S16x256_S16x256_0_0) (Mk := Finset.univ) (Finset.subset_univ _)) $$ H5; iintro H5
  ihave H5 := (Entails.of_eq (congrArg (stg c cc0_stg5_0) ((write5 f5 _).trans (congrArg (k0_pay6 v165) (read7 (received G c)))))) $$ H5
  ihave H : iprop(records G K ∗ Dep G c 0) $$ [HO Hc Hat]
  · isplitr; · iexact HR
    unfold Dep
    rw [fam_zero, ← zip2]
    isplitl [HO]; · iexact HO
    isplitl [Hc] <;> iassumption
  iapply (carry (depart_step G K c 0 0 rfl (cond_iff 0 c))) $$ H; iintro H
  iapply (carry (depart_step G K c 1 1 rfl (cond_iff 1 c))) $$ H; iintro H
  iapply (carry (depart_step G K c 2 2 rfl (cond_iff 2 c))) $$ H; iintro H
  iapply (carry (depart_step G K c 3 3 rfl (cond_iff 3 c))) $$ H; iintro H
  rw [Prog.pure_eq_ret, wp_ret]; imodintro
  iapply Hk
  isplitl [H]; · iexact H
  isplitl [Hr]; · iexact Hr
  isplitl [H5] <;> iassumption

set_option maxHeartbeats 4000000 in
/-- Part 10 waits for the departure of what was sent to the devices 4 to 10. -/
theorem part10 (c : Dev nD) (Q) :
    iprop(records G K ∗ Dep G c 4)
      ⊢ iprop((iprop(records G K ∗ Dep G c 11) -∗ Q (Scalar.extui (Scalar.cmpi .ne (vD c) 11#32)))
        -∗ wp frame (wpE (defs₀ (F := F)) 𝒱₀ (c : Thread nD τ) none) Set.univ
          (k0_part10 (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3 c (vD c)) Q) := by
  simp only [k0_part10_eq_skeleton]; unfold k0_part10_skel
  iintro H Hk
  iapply (carry (depart_step G K c 4 4 rfl (cond_iff 4 c))) $$ H; iintro H
  iapply (carry (depart_step G K c 5 5 rfl (cond_iff 5 c))) $$ H; iintro H
  iapply (carry (depart_step G K c 6 6 rfl (cond_iff 6 c))) $$ H; iintro H
  iapply (carry (depart_step G K c 7 7 rfl (cond_iff 7 c))) $$ H; iintro H
  iapply (carry (depart_step G K c 8 8 rfl (cond_iff 8 c))) $$ H; iintro H
  iapply (carry (depart_step G K c 9 9 rfl (cond_iff 9 c))) $$ H; iintro H
  iapply (carry (depart_step G K c 10 10 rfl (cond_iff 10 c))) $$ H; iintro H
  rw [Prog.pure_eq_ret, wp_ret]; imodintro
  iapply Hk; iexact H

end Cert.Exchange

end
-- ==== Proof.Whole.lean ====
/-
  The kernel's body on one device, as a whole: from the buffers, positions, duties and credits a device starts
  with to its rows of the result, with every semaphore of the device back at zero.
-/
module

public import proofs.«01_k».proof.Proof.Body2

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (G : Dev nD → (cc0_scratch0 : Ref sig .tc).ty.Contents (Elt F)) (K : Dev nD × CIx → ℕ)

/-- Where device `c` stands at its own cells. -/
def positions (c : Dev nD) : sProp 𝕄 :=
  iprop(atPos ER (barCell c) 0 ∅ 0 ∗ (bigSep Finset.univ fun j => atPos ER (sendCell c j) 0 ∅ 0)
    ∗ bigSep Finset.univ fun j => atPos ER (recvCell c j) 0 ∅ 0)
/-- The duties device `c` pays: a signal to every other device, and both ends of a transfer to it. -/
def payToks (c : Dev nD) : sProp 𝕄 :=
  iprop((bigSep (Finset.univ.erase c) fun j => dutyTok ER (barCell j) 0 c)
    ∗ bigSep (Finset.univ.erase c) fun j => iprop(dutyTok ER (sendCell c j) 0 j ∗ dutyTok ER (recvCell j c) 0 c))
/-- What device `c` may wait for: fifteen signals, and a transfer from every other device. -/
def credits (c : Dev nD) : sProp 𝕄 :=
  iprop(cred (tallyAt (barCell c) () 15) ∗ bigSep (Finset.univ.erase c) fun j => cred (tallyAt (recvCell c j) () N))
/-- The counters of device `c`'s own semaphores, all zero. -/
def zeros (c : Dev nD) : sProp 𝕄 :=
  iprop(semVal (barCell c) 0 ∗ (bigSep Finset.univ fun j => semVal (sendCell c j) 0) ∗ bigSep Finset.univ fun j => semVal (recvCell c j) 0)

omit [FloatOps F] in
/-- A family over all devices is its member at `c` and the family over the others. -/
theorem at_own (c : Dev nD) (Φ : Dev nD → sProp 𝕄) : bigSep Finset.univ Φ = iprop(Φ c ∗ bigSep (Finset.univ.erase c) Φ) :=
  bigSep_erase (Finset.mem_univ c)

omit [FloatOps F] in
/-- The receive slots of the other devices, each at some contents. -/
theorem some_slots (c : Dev nD) (f : (cc0_scratch1 : Ref sig .tc).ty.Contents (Elt F)) :
    (bigSep (Finset.univ.erase c) fun j => rPts c j f : sProp 𝕄) ⊢ bigSep (Finset.univ.erase c) fun j => iprop(∃ f, rPts c j f) :=
  bigSep_mono fun j _ => show (rPts c j f : sProp 𝕄) ⊢ iprop(∃ f, rPts c j f) from by iintro H; iexists f; iexact H

set_option maxHeartbeats 4000000 in
/-- The body on device `c`, whose staged inputs are `X0` to `X4`, when `G c` is what the device computes to send. -/
theorem device (c : Dev nD) (X0 : (cc0_stg0_0 : Ref sig .tc).ty.Contents (Elt F)) (X1 : (cc0_stg1_0 : Ref sig .tc).ty.Contents (Elt F))
    (X2 : (cc0_stg2_0 : Ref sig .tc).ty.Contents (Elt F)) (X3 : (cc0_stg3_0 : Ref sig .tc).ty.Contents (Elt F))
    (X4 : (cc0_stg4_0 : Ref sig .tc).ty.Contents (Elt F)) (f5 : (cc0_stg5_0 : Ref sig .tc).ty.Contents (Elt F))
    (hG : k0_pay3 (vD c) (k0_pay1 X0) (k0_pay2 X0 X1) X2 (expert0 X3) (expert1 X3) = G c) (Q : PUnit → sProp 𝕄) :
    iprop(records G K ∗ levAts L lv ∗ (∃ W, owes (c : Thread nD τ) (O₀ c) W) ∗ payToks c ∗ positions c ∗ credits c
        ∗ (∃ f, stg c cc0_scratch0 f) ∗ (∃ f, stg c cc0_scratch1 f)
        ∗ stg c cc0_stg0_0 X0 ∗ stg c cc0_stg1_0 X1 ∗ stg c cc0_stg2_0 X2 ∗ stg c cc0_stg3_0 X3 ∗ stg c cc0_stg4_0 X4 ∗ stg c cc0_stg5_0 f5)
      ⊢ iprop((iprop((∃ W, owes (c : Thread nD τ) 0 W) ∗ zeros c
          ∗ stg c cc0_scratch0 (G c) ∗ stg c cc0_scratch1 (received G c)
          ∗ stg c cc0_stg0_0 X0 ∗ stg c cc0_stg1_0 X1 ∗ stg c cc0_stg2_0 X2 ∗ stg c cc0_stg3_0 X3 ∗ stg c cc0_stg4_0 X4
          ∗ stg c cc0_stg5_0 (k0_pay6 (k0_pay5 (ownRows c X0) X4) (received G c))) -∗ Q ⟨⟩)
        -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) Q) := by
  simp only [cc0_body_eq_skeleton]; unfold cc0_body_skel payToks positions credits
  iintro ⟨#HR, #Hlev, ⟨%W, HO⟩, ⟨HtB, Ht⟩, ⟨HaB, HaS, HaR⟩, ⟨HcB, HcR⟩, ⟨%fs, Hs⟩, ⟨%fr, Hr⟩, H0, H1, H2, H3, H4, H5⟩ Hk
  -- the positions and buffers split at the device's own slot
  ihave HaS := (Entails.of_eq (at_own c (fun j => atPos ER (sendCell c j) 0 ∅ 0))) $$ HaS
  icases HaS with ⟨HaSo, HaS⟩
  ihave HaR := (Entails.of_eq (at_own c (fun j => atPos ER (recvCell c j) 0 ∅ 0))) $$ HaR
  icases HaR with ⟨HaRo, HaR⟩
  ihave Hr := (Entails.of_eq (cut_recv c fr)) $$ Hr
  icases Hr with ⟨Hro, Hr⟩
  ihave Hr := (some_slots c fr) $$ Hr
  ihave H : iprop(records G K ∗ Sig c 0) $$ [HO HtB Hr]
  · isplitr; · iexact HR
    unfold Sig
    rw [fam_zero, ← zip2, rest_zero]
    isplitl [HO]; · iexists W; iexact HO
    isplitl [HtB] <;> iassumption
  rw [wp_bind]
  iapply (part1 G K c _) $$ H; iintro H
  rw [wp_bind]
  iapply (part2 G K c X0 X1 _) $$ [H H0 H1]
  · isplitl [H]; · iexact H
    isplitl [H0] <;> iassumption
  iintro ⟨H, H0, H1⟩
  rw [wp_bind]
  iapply (part3 c _ _ X2 X3 fs _) $$ [H2 H3 Hs]
  · isplitl [H2]; · iexact H2
    isplitl [H3] <;> iassumption
  iintro ⟨H2, H3, Hs⟩
  rw [hG, wp_bind]
  iapply (part4 G K c fs _) $$ [H Hs HcB HaB Ht]
  · isplitl [H]; · iexact H
    isplitr; · iexact Hlev
    isplitl [Hs]; · iexact Hs
    isplitl [HcB]; · iexact HcB
    isplitl [HaB] <;> iassumption
  iintro ⟨H, Hso, HzB⟩
  rw [wp_bind]
  iapply (part5 G K c _) $$ H; iintro H
  rw [wp_bind]
  iapply (part6 G K c _ X0 X4 _) $$ [H Hso Hro H0 H4 HcR HaR]
  · isplitl [H]; · iexact H
    isplitl [Hso]; · iexact Hso
    isplitl [Hro]; · iexists fr; iexact Hro
    isplitl [H0]; · iexact H0
    isplitl [H4]; · iexact H4
    rw [← zip2]
    isplitl [HcR] <;> iassumption
  iintro ⟨H, Hso, Hro, H0, H4, HcS⟩
  rw [wp_bind]
  iapply (part7 G K c _) $$ H; iintro H
  rw [wp_bind]
  iapply (part8 G K c _) $$ H; iintro H
  rw [wp_bind]
  iapply (part9 G K c _ f5 _) $$ [H Hro H5 HcS HaS]
  · isplitl [H]; · iexact H
    isplitl [Hro]; · iexact Hro
    isplitl [H5]; · iexact H5
    isplitl [HcS] <;> iassumption
  iintro ⟨H, Hr, H5, HzR⟩
  rw [wp_bind]
  iapply (part10 G K c _) $$ H; iintro H
  iapply (carry (depart_step G K c 11 11 rfl (cond_iff 11 c))) $$ H; iintro H
  iapply (carry (depart_step G K c 12 12 rfl (cond_iff 12 c))) $$ H; iintro H
  iapply (carry (depart_step G K c 13 13 rfl (cond_iff 13 c))) $$ H; iintro H
  iapply (carry (depart_step G K c 14 14 rfl (cond_iff 14 c))) $$ H; iintro H
  iapply (carry (depart_step G K c 15 15 rfl (cond_iff 15 c))) $$ H; iintro H
  icases H with ⟨-, H⟩
  unfold Dep
  rw [fam_end, ← zip2]
  icases H with ⟨HO, Hs, HzS⟩
  -- the device's own two cells, which nobody paid, are closed
  imod (Rounds.cell_close ER (sched G) (Set.mem_univ (K (c, .inr (.inl c)))) (fun h => h) (R := 0) (fun r _ => duties_own_send G c r)) $$ [HaSo] with HzSo
  · isplitr; · iapply (records_inv G K (c, .inr (.inl c))); iexact HR
    iexact HaSo
  imod (Rounds.cell_close ER (sched G) (Set.mem_univ (K (c, .inr (.inr c)))) (fun h => h) (R := 0) (fun r _ => duties_own_recv G c r)) $$ [HaRo] with HzRo
  · isplitr; · iapply (records_inv G K (c, .inr (.inr c))); iexact HR
    iexact HaRo
  rw [Prog.pure_eq_ret, wp_ret]; imodintro
  iapply Hk
  isplitl [HO]; · iexact HO
  isplitl [HzB HzS HzSo HzR HzRo]
  · unfold zeros
    isplitl [HzB]; · iexact HzB
    isplitl [HzS HzSo]
    · iapply (Entails.of_eq (at_own c (fun j => semVal (sendCell c j) 0)).symm)
      isplitl [HzSo] <;> iassumption
    iapply (Entails.of_eq (at_own c (fun j => semVal (recvCell c j) 0)).symm)
    isplitl [HzRo] <;> iassumption
  isplitl [Hs Hso]
  · iapply (Entails.of_eq (cut_send c (G c)).symm)
    isplitl [Hso] <;> iassumption
  isplitl [Hr]; · iexact Hr
  isplitl [H0]; · iexact H0
  isplitl [H1]; · iexact H1
  isplitl [H2]; · iexact H2
  isplitl [H3]; · iexact H3
  isplitl [H4] <;> iassumption

end Cert.Exchange

end
-- ==== Proof.Launch.lean ====
/-
  The launch: what every device starts with is made at once for all sixteen, the body runs on each, and the run
  of @main ends with the result array of every device at the contents computed here, for any float values.
-/
module

public import proofs.«01_k».proof.Proof.Whole
public import Idealize.ShloMosaic.Lib.Pipeline.CollectiveSegs

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Contents -/

omit [FloatOps F] in
/-- The staged inputs of device `c`: its argument arrays. -/
def in0 (c : Dev nD) : (cc0_stg0_0 : Ref sig .tc).ty.Contents (Elt F) := iblk m c 0 t0_0
omit [FloatOps F] in
def in1 (c : Dev nD) : (cc0_stg1_0 : Ref sig .tc).ty.Contents (Elt F) := iblk m c 1 t0_0
omit [FloatOps F] in
def in2 (c : Dev nD) : (cc0_stg2_0 : Ref sig .tc).ty.Contents (Elt F) := iblk m c 2 t0_0
omit [FloatOps F] in
def in3 (c : Dev nD) : (cc0_stg3_0 : Ref sig .tc).ty.Contents (Elt F) := iblk m c 3 t0_0
omit [FloatOps F] in
def in4 (c : Dev nD) : (cc0_stg4_0 : Ref sig .tc).ty.Contents (Elt F) := iblk m c 4 t0_0

/-- What device `c` computes and sends: its experts' part of every token's output, in sixteen slots of sixteen rows. -/
def sent (c : Dev nD) : (cc0_scratch0 : Ref sig .tc).ty.Contents (Elt F) :=
  k0_pay3 (vD c) (k0_pay1 (in0 m c)) (k0_pay2 (in0 m c) (in1 m c)) (in2 m c) (expert0 (in3 m c)) (expert1 (in3 m c))
/-- What device `c` stores as its rows of the result. -/
def outAt (c : Dev nD) : (cc0_stg5_0 : Ref sig .tc).ty.Contents (Elt F) :=
  k0_pay6 (k0_pay5 (ownRows c (in0 m c)) (in4 m c)) (received (sent m) c)

/-! ## The body's obligation -/

/-- What device `c` holds of the exchange when its body starts. -/
def ghost (K : Dev nD × CIx → ℕ) (c : Dev nD) : sProp 𝕄 := iprop(records (sent m) K ∗ positions c ∗ payToks c)
def start (c : Dev nD) : sProp 𝕄 := iprop((∃ K, ghost m K c) ∗ credits c ∗ levAts L lv)
def Φ₀ (c : Dev nD) : sProp 𝕄 := iprop(start m c ∗ (∃ f, stg c cc0_scratch0 f) ∗ ∃ f, stg c cc0_scratch1 f)
/-- And after it: its semaphores at zero, and the two exchange buffers. -/
def Φ₁ (c : Dev nD) : sProp 𝕄 := iprop(zeros c ∗ stg c cc0_scratch0 (sent m c) ∗ stg c cc0_scratch1 (received (sent m) c))

def dats (_ : Fin 1) (c : Dev nD) : Dat τ (Elt F) Unit ℕ UU ℕ cfg0 c where
  A w := V m c (Pipeline.arrRef spec0 w)
  after w _ := match w with
    | ⟨0, _⟩ => in0 m c
    | ⟨1, _⟩ => in1 m c
    | ⟨2, _⟩ => in2 m c
    | ⟨3, _⟩ => in3 m c
    | ⟨4, _⟩ => in4 m c
    | ⟨5, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A whole staging buffer known to hold `X`. -/
abbrev holding (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem holding_elim (c : Dev nD) (b : Ref sig .tc) (X : b.ty.Contents (Elt F)) : holding c b X ⊢ stg c b X := by
  iintro ⟨%f, %h, H⟩; subst h; iexact H
omit [FloatOps F] in
theorem holding_intro (c : Dev nD) (b : Ref sig .tc) (X : b.ty.Contents (Elt F)) : stg c b X ⊢ holding c b X := by
  iintro H; iexists X
  isplitr; · ipureintro; rfl
  iexact H

def bodyPre (c : Dev nD) : sProp 𝕄 :=
  iprop(Φ₀ m c ∗ (dats m 0 c).owesAt () t0_0.castSucc
    ∗ (∃ d, holding c cc0_stg0_0 ((dats m 0 c).before (0 : Fin 6) t0_0 d))
    ∗ (∃ d, holding c cc0_stg1_0 ((dats m 0 c).before (1 : Fin 6) t0_0 d))
    ∗ (∃ d, holding c cc0_stg2_0 ((dats m 0 c).before (2 : Fin 6) t0_0 d))
    ∗ (∃ d, holding c cc0_stg3_0 ((dats m 0 c).before (3 : Fin 6) t0_0 d))
    ∗ (∃ d, holding c cc0_stg4_0 ((dats m 0 c).before (4 : Fin 6) t0_0 d))
    ∗ (∃ d, holding c cc0_stg5_0 ((dats m 0 c).before (5 : Fin 6) t0_0 d)))

def bodyPost (c : Dev nD) : sProp 𝕄 :=
  iprop(Φ₁ m c ∗ (dats m 0 c).owesAt () t0_0.succ
    ∗ holding c cc0_stg0_0 (in0 m c) ∗ holding c cc0_stg1_0 (in1 m c) ∗ holding c cc0_stg2_0 (in2 m c)
    ∗ holding c cc0_stg3_0 (in3 m c) ∗ holding c cc0_stg4_0 (in4 m c) ∗ holding c cc0_stg5_0 (outAt m c))

theorem before0 (c : Dev nD) (d) : (dats m 0 c).before (0 : Fin 6) t0_0 d = in0 m c := by
  unfold Dat.before; rw [if_pos (fetch0_0 t0_0)]; rfl
theorem before1 (c : Dev nD) (d) : (dats m 0 c).before (1 : Fin 6) t0_0 d = in1 m c := by
  unfold Dat.before; rw [if_pos (fetch0_1 t0_0)]; rfl
theorem before2 (c : Dev nD) (d) : (dats m 0 c).before (2 : Fin 6) t0_0 d = in2 m c := by
  unfold Dat.before; rw [if_pos (fetch0_2 t0_0)]; rfl
theorem before3 (c : Dev nD) (d) : (dats m 0 c).before (3 : Fin 6) t0_0 d = in3 m c := by
  unfold Dat.before; rw [if_pos (fetch0_3 t0_0)]; rfl
theorem before4 (c : Dev nD) (d) : (dats m 0 c).before (4 : Fin 6) t0_0 d = in4 m c := by
  unfold Dat.before; rw [if_pos (fetch0_4 t0_0)]; rfl

set_option maxHeartbeats 1000000 in
/-- The body from what the pipeline calls it with to what it must leave. -/
theorem sound_body (c : Dev nD) :
    bodyPre m c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _) cc0_scratch2 cc0_scratch3) (fun _ => bodyPost m c) := by
  unfold bodyPre Φ₀ start ghost
  simp only [before0, before1, before2, before3, before4]
  unfold Dat.owesAt Pipeline.owesWithin
  iintro ⟨⟨⟨⟨%K, #HR, Hpos, Htok⟩, Hcr, #Hlev⟩, Hs, Hr⟩, ⟨%W, %hW, HO⟩, ⟨%d0, H0⟩, ⟨%d1, H1⟩, ⟨%d2, H2⟩, ⟨%d3, H3⟩, ⟨%d4, H4⟩, ⟨%d5, %f5, %h5, H5⟩⟩
  ihave H0 := (holding_elim c cc0_stg0_0 _) $$ H0
  ihave H1 := (holding_elim c cc0_stg1_0 _) $$ H1
  ihave H2 := (holding_elim c cc0_stg2_0 _) $$ H2
  ihave H3 := (holding_elim c cc0_stg3_0 _) $$ H3
  ihave H4 := (holding_elim c cc0_stg4_0 _) $$ H4
  rw [show (dats m 0 c).owed t0_0.castSucc = O₀ c from rfl]
  iapply (device (sent m) K c (in0 m c) (in1 m c) (in2 m c) (in3 m c) (in4 m c) f5 rfl _) $$ [HO Hpos Htok Hcr Hs Hr H0 H1 H2 H3 H4 H5]
  · isplitr; · iexact HR
    isplitr; · iexact Hlev
    isplitl [HO]; · iexists W; iexact HO
    isplitl [Htok]; · iexact Htok
    isplitl [Hpos]; · iexact Hpos
    isplitl [Hcr]; · iexact Hcr
    isplitl [Hs]; · iexact Hs
    isplitl [Hr]; · iexact Hr
    isplitl [H0]; · iexact H0
    isplitl [H1]; · iexact H1
    isplitl [H2]; · iexact H2
    isplitl [H3]; · iexact H3
    isplitl [H4] <;> iassumption
  iintro ⟨⟨%W', HO⟩, Hz, Hs, Hr, H0, H1, H2, H3, H4, H5⟩
  unfold bodyPost Φ₁ Dat.owesAt Pipeline.owesWithin
  rw [show (dats m 0 c).owed t0_0.succ = 0 from rfl]
  isplitl [Hz Hs Hr]
  · isplitl [Hz]; · iexact Hz
    isplitl [Hs] <;> iassumption
  isplitl [HO]
  · iexists W'
    isplitr; · ipureintro; exact fun _ _ => Or.inl trivial
    iexact HO
  isplitl [H0]; · iapply (holding_intro c cc0_stg0_0 _); iexact H0
  isplitl [H1]; · iapply (holding_intro c cc0_stg1_0 _); iexact H1
  isplitl [H2]; · iapply (holding_intro c cc0_stg2_0 _); iexact H2
  isplitl [H3]; · iapply (holding_intro c cc0_stg3_0 _); iexact H3
  isplitl [H4]; · iapply (holding_intro c cc0_stg4_0 _); iexact H4
  iapply (holding_intro c cc0_stg5_0 _); iexact H5

set_option maxRecDepth 4000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound_body m c

/-! ## What the launch deals -/

theorem ownSemFacts : Pipeline.OwnSemFacts cfg0.spec osem := by decide

theorem share_eq (c : Dev nD) (w : Fin cfg0.W) : (dats m 0 c).share w = fullShare := by unfold Dat.share; split <;> rfl

def allCells : Finset (GSem nD τ sig) := Finset.univ.map ⟨kcell, kcell_injective⟩

/-- The duties that device `c` pays towards device `j`: the signal, the departure and the arrival of a transfer. -/
abbrev tokOf : Dev nD × (Dev nD ⊕ (Dev nD ⊕ Dev nD)) → GSem nD τ sig × ℕ × Dev nD
  | (c, .inl j) => (barCell j, 0, c)
  | (c, .inr (.inl j)) => (sendCell c j, 0, j)
  | (c, .inr (.inr j)) => (recvCell j c, 0, c)

theorem tokOf_injective : Function.Injective tokOf := by
  rintro ⟨c, k⟩ ⟨c', k'⟩ h
  have hd := congrArg (fun x : GSem nD τ sig × ℕ × Dev nD => x.1.1.1) h
  have hs := congrArg (fun x : GSem nD τ sig × ℕ × Dev nD => x.1.2) h
  have ht := congrArg (fun x : GSem nD τ sig × ℕ × Dev nD => x.2.2) h
  rcases k with j | j | j <;> rcases k' with j' | j' | j'
  · have h1 : j = j' := hd
    have h2 : c = c' := ht
    rw [h1, h2]
  · exact absurd hs.symm (dma_ne_bar _)
  · exact absurd hs.symm (dma_ne_bar _)
  · exact absurd hs (dma_ne_bar _)
  · have h1 : c = c' := hd
    have h2 : j = j' := ht
    rw [h1, h2]
  · exact absurd hs (send_ne_recv _ _)
  · exact absurd hs (dma_ne_bar _)
  · exact absurd hs.symm (send_ne_recv _ _)
  · have h1 : j = j' := hd
    have h2 : c = c' := ht
    rw [h1, h2]

def allToks : Finset (GSem nD τ sig × ℕ × Dev nD) := Finset.univ.map ⟨tokOf, tokOf_injective⟩

def u₀ : UU := (initOf (Pipeline.cells cfgs cellOf_inj) (Pipeline.launchToks cfgs cellOf_inj), initOf allCells allToks)

/-- The tokens of device `c`, one family for each kind of duty. -/
def toks (c : Dev nD) : sProp 𝕄 :=
  iprop((bigSep Finset.univ fun j => dutyTok ER (barCell j) 0 c) ∗ (bigSep Finset.univ fun j => dutyTok ER (sendCell c j) 0 j)
    ∗ bigSep Finset.univ fun j => dutyTok ER (recvCell j c) 0 c)

omit [FloatOps F] in
theorem others (c : Dev nD) (Φ : Dev nD → sProp 𝕄) : bigSep Finset.univ Φ ⊢ bigSep (Finset.univ.erase c) Φ := by
  rw [at_own c]; iintro ⟨-, H⟩; iexact H

/-- Of its tokens a device keeps those towards the other devices. -/
theorem toks_pay (c : Dev nD) : (toks c : sProp 𝕄) ⊢ payToks c := by
  unfold toks payToks
  iintro ⟨H1, H2, H3⟩
  isplitl [H1]; · iapply (others c (fun j => dutyTok ER (barCell j) 0 c)); iexact H1
  iapply (Entails.of_eq (zip2 (Finset.univ.erase c) (fun j => dutyTok ER (sendCell c j) 0 j) (fun j => dutyTok ER (recvCell j c) 0 c)))
  isplitl [H2]; · iapply (others c (fun j => dutyTok ER (sendCell c j) 0 j)); iexact H2
  iapply (others c (fun j => dutyTok ER (recvCell j c) 0 c)); iexact H3

omit [FloatOps F] in
/-- A family over a device's cells. -/
theorem cells_eq (Φ : CIx → sProp 𝕄) : bigSep Finset.univ Φ
    = iprop(Φ (.inl ()) ∗ (bigSep Finset.univ fun j => Φ (.inr (.inl j))) ∗ bigSep Finset.univ fun j => Φ (.inr (.inr j))) := by
  rw [bigSep_univ_sum, bigSep_univ_sum, Finset.univ_unique, bigSep_singleton]; rfl

/-- What the launch deals device `c`: its cells' round states, its positions, and its tokens. -/
def dealt (c : Dev nD) : sProp 𝕄 :=
  iprop((bigSep Finset.univ fun k : CIx => roundState ER (sched (sent m)) (kcell (c, k)) 0)
    ∗ (bigSep Finset.univ fun k : CIx => iprop(atPos ER (kcell (c, k)) 0 ∅ 0 ∗ reached ER (kcell (c, k)) 0)) ∗ toks c)

/-- What is made of it. -/
def given (c : Dev nD) : sProp 𝕄 := iprop(∃ K, ghost m K c)

theorem fund_all : BI.own (ER (initOf allCells allToks)) ⊢ (|==> bigSep Finset.univ (dealt m) : sProp 𝕄) := by
  have hX (Φ : GSem nD τ sig → sProp 𝕄) : bigSep allCells Φ = bigSep Finset.univ fun c : Dev nD => bigSep Finset.univ fun k : CIx => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched (sent m)) allCells allToks) $$ HX with ⟨Hst, Hr, Hat, Htok⟩
  imodintro
  ihave Hst' := (Entails.of_eq (hX fun g => roundState ER (sched (sent m)) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

omit [FloatOps F] in
theorem ownSems0_eq (c : Dev nD) : (Pipeline.ownSems0 (Ix := Unit) (Name := ℕ) (U := UU) (Lvl := ℕ) (Val := Elt F) (τ := τ) osem c : sProp 𝕄)
    = iprop((bigSep Finset.univ fun j => semVal (sendCell c j) 0) ∗ bigSep Finset.univ fun j => semVal (recvCell c j) 0) := by
  unfold Pipeline.ownSems0; rw [bigSep_univ_sum]; rfl
omit [FloatOps F] in
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CIx => semVal (kcell (c, k)) 0 : sProp 𝕄) := by
  rw [ownSems0_eq, unscopedSems0_eq, cells_eq]
  iintro ⟨H, HB⟩
  isplitl [HB] <;> iassumption

theorem core_alloc (c : Dev nD) :
    iprop(Pipeline.ownSems0 (Ix := Unit) (Name := ℕ) (U := UU) (Lvl := ℕ) (Val := Elt F) (τ := τ) osem c ∗ unscopedSems0 c ∗ dealt m c)
      ⊢ |={Set.univ}=> iprop((bigSep Finset.univ fun k => iprop(∃ κ : ℕ, cellInv ER (sched (sent m)) κ (kcell (c, k))))
          ∗ (bigSep Finset.univ fun k => iprop(atPos ER (kcell (c, k)) 0 ∅ 0 ∗ reached ER (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : CIx => semVal (kcell (c, k)) 0) ∗ bigSep Finset.univ fun k : CIx => roundState ER (sched (sent m)) (kcell (c, k)) 0)
      ⊢ (|={Set.univ}=> bigSep Finset.univ fun k => iprop(∃ κ : ℕ, cellInv ER (sched (sent m)) κ (kcell (c, k))) : sProp 𝕄) from by
        rw [← bigSep_sep']
        exact (bigSep_mono fun k _ => (Rounds.body_intro ER (sched (sent m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

omit [FloatOps F] in
theorem bigSep_with {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × CIx → ℕ) (c : Dev nD) :
    iprop(records (sent m) K ∗ (bigSep Finset.univ fun k : CIx => atPos ER (kcell (c, k)) 0 ∅ 0) ∗ toks c) ⊢ given m c := by
  rw [cells_eq]
  unfold given ghost positions
  iintro ⟨HR, Hpos, Ht⟩
  iexists K
  isplitl [HR]; · iexact HR
  isplitl [Hpos]; · iexact Hpos
  iapply (toks_pay c); iexact Ht

theorem regroup :
    (bigSep Finset.univ fun c : Dev nD => iprop((bigSep Finset.univ fun k => iprop(∃ κ : ℕ, cellInv ER (sched (sent m)) κ (kcell (c, k))))
          ∗ (bigSep Finset.univ fun k => iprop(atPos ER (kcell (c, k)) 0 ∅ 0 ∗ reached ER (kcell (c, k)) 0)) ∗ toks c) : sProp 𝕄)
      ⊢ bigSep Finset.univ (given m) := by
  rw [bigSep_sep', bigSep_sep', ← bigSep_univ_prod (fun ck : Dev nD × CIx => iprop(∃ κ : ℕ, cellInv ER (sched (sent m)) κ (kcell ck))),
    bigSep_congr (s := Finset.univ) (fun (c : Dev nD) _ => bigSep_sep' Finset.univ (fun k : CIx => (atPos ER (kcell (c, k)) 0 ∅ 0 : sProp 𝕄)) (fun k => reached ER (kcell (c, k)) 0)),
    bigSep_sep', ← bigSep_univ_prod (fun ck : Dev nD × CIx => (reached ER (kcell ck) 0 : sProp 𝕄))]
  iintro ⟨HI, ⟨Hat, #HR⟩, Htok⟩
  ihave HK := (BI.bigSep_exists_pi Finset.univ (fun (ck : Dev nD × CIx) (κ : ℕ) => (cellInv ER (sched (sent m)) κ (kcell ck) : sProp 𝕄))) $$ HI
  icases HK with ⟨%K, #HI⟩
  iapply (bigSep_with (R := records (sent m) K) fun c _ => ghost_intro m K c)
  isplitr
  · unfold records; isplitl; · iexact HI
    iexact HR
  · iapply (Entails.of_eq (zip2 Finset.univ (fun c : Dev nD => bigSep Finset.univ fun k : CIx => atPos ER (kcell (c, k)) 0 ∅ 0) toks))
    isplitl [Hat]; · iexact Hat
    iexact Htok

/-- The invariants of all cells of all devices are allocated in one step. -/
theorem glob : (bigSep Finset.univ fun c => iprop(Pipeline.ownSems0 (Ix := Unit) (Name := ℕ) (U := UU) (Lvl := ℕ) (Val := Elt F) (τ := τ) osem c ∗ unscopedSems0 c ∗ dealt m c) : sProp 𝕄)
    ⊢ |={Set.univ}=> bigSep Finset.univ (given m) :=
  ((bigSep_mono fun c _ => core_alloc m c).trans (bigSep_fupd _ _)).trans (BI.fupd_mono (regroup m))

/-! ### The credit -/

/-- What all devices together owe device `c`. -/
def due (c : Dev nD) : CellTallies nD τ sig Unit :=
  ∑ j ∈ Finset.univ.erase c, tallyAt (recvCell c j) () N + tallyAt (barCell c) () 15

theorem sum_erase_comm (f : Dev nD → Dev nD → CellTallies nD τ sig Unit) :
    ∑ a, ∑ b ∈ Finset.univ.erase a, f a b = ∑ b, ∑ a ∈ Finset.univ.erase b, f a b :=
  Finset.sum_comm' fun a b => by
    simp only [Finset.mem_univ, Finset.mem_erase, true_and, and_true]; exact ne_comm

theorem units (g : GSem nD τ sig) (n : ℕ) : ∑ _i ∈ Finset.range n, (tallyAt g () 1 : CellTallies nD τ sig Unit) = tallyAt g () n := by
  induction n with
  | zero => rw [Finset.sum_range_zero]; exact (by unfold tallyAt; simp)
  | succ n ih => rw [Finset.sum_range_succ, ih, tallyAt_add]

theorem owed_due : (∑ d, O₀ d) = ∑ d, due d := by
  unfold O₀ owedRecv owedBar due
  rw [Finset.sum_add_distrib, Finset.sum_add_distrib, sum_erase_comm (fun d j => tallyAt (recvCell j d) () N),
    sum_erase_comm (fun d j => tallyAt (barCell j) () 1)]
  refine congrArg _ (Finset.sum_congr rfl fun c _ => ?_)
  rw [Finset.sum_const, Finset.card_erase_of_mem (Finset.mem_univ _), Finset.card_univ, Fintype.card_fin, ← units (barCell c) 15,
    Finset.sum_const, Finset.card_range]
  rfl

theorem due_own (c : Dev nD) (g : GSem nD τ sig) (h : due c g ≠ 0) : g.1 = (c.tc : Thread nD τ) := by
  by_contra hg
  refine h ?_
  unfold due
  rw [Pi.add_apply, Finset.sum_apply, tallyAt_ne_cell (fun h' : g = barCell c => hg (congrArg Prod.fst h')), add_zero]
  exact Finset.sum_eq_zero fun j _ => tallyAt_ne_cell (fun h' : g = recvCell c j => hg (congrArg Prod.fst h')) _ _

omit [FloatOps F] in
theorem cred_family (S : Finset (Dev nD)) (f : Dev nD → CellTallies nD τ sig Unit) :
    (cred (∑ j ∈ S, f j) : sProp 𝕄) ⊢ bigSep S fun j => cred (f j) := by
  induction S using Finset.induction_on with
  | empty => rw [bigSep_empty]; iintro -; iempintro
  | insert a S ha ih => rw [Finset.sum_insert ha, bigSep_insert ha]; exact (cred_add _ _).1.trans (sep_mono_right ih)

omit [FloatOps F] in
theorem creds (c : Dev nD) : (Pipeline.launchCred O₀ c : sProp 𝕄) ⊢ credits c := by
  rw [Pipeline.launchCred_of_sum O₀ due owed_due due_own c]
  unfold due credits
  refine (cred_add _ _).1.trans ?_
  iintro ⟨H1, H2⟩
  isplitl [H2]; · iexact H2
  iapply (cred_family (Finset.univ.erase c) (fun j => tallyAt (recvCell c j) () N)); iexact H1

/-! ### The side conditions of the launch -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ given m c)
      ⊢ |={Set.univ}=> iprop(start m c ∗ emp) := by
  iintro ⟨-, Hlev, Hcr, -, HG⟩
  ihave Hc := (creds (F := F) c) $$ Hcr
  imodintro
  unfold start given
  isplitl
  · isplitl [HG]; · iexact HG
    isplitl [Hc] <;> iassumption
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, H⟩
  isplitl [Hs] <;> iassumption

theorem phi1_exit (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq, ownSems0_eq, unscopedSems0_eq]
  unfold Φ₁ zeros
  iintro ⟨⟨HzB, Hz⟩, Hs, Hr⟩
  isplitl [HzB]; · iexact HzB
  isplitl [Hz]; · iexact Hz
  isplitl [Hs]; · iexists (sent m c); iexact Hs
  iexists (received (sent m) c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

def finalA (c : Dev nD) (w : Fin cfg0.W) : Buf (Elt F) ((cfg0.win w).arr.view.loc (c : Thread nD τ)) := (dats m 0 c).arrAt w cfg0.N

set_option maxRecDepth 8000 in
/-- From any memory with zero counters, every fair execution of @main on the sixteen devices terminates, and every
    final state has every array of a window at the contents computed here and every semaphore counter at zero. -/
theorem run_arrays : θ_run defs (onTc (τ := τ) (main (F := F))) (s₀ m ρ)
    (fun r => (∀ c : Dev nD, ∀ w : Fin cfg0.W, r.2.mem ((cfg0.win w).arr.view.loc (c : Thread nD τ)) = finalA m c w) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := dealt m) (G' := given m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => unscopedSems0 c) (Z := fun _ => iprop(emp))
    (hX := start_intro m ρ) (hin := phi0_intro m) (hout := phi1_exit m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

end Cert.Exchange

end
-- ==== Proof.Run.lean ====
/-
  The run of the kernel, for any float values: the result of every device is what `outAt` says, the argument arrays
  are as launched, and every semaphore counter is zero.
-/
module

public import proofs.«01_k».proof.Proof.Launch
public import Idealize.ShloMosaic.Lib.Pipeline.ValueKit

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The result array after the run holds what the body stored. -/
theorem finalA_out (c : Dev nD) : finalA m c (5 : Fin 6) = outAt m c := by
  refine (dats m 0 c).arrAt_eq_of_after_last (5 : Fin 6) t0_0 (by decide +kernel) (outAt m c) fun j => ?_
  blk_simp
  rfl

omit [FloatOps F] in
theorem in0_eq (c : Dev nD) : in0 m c = m ((c : Thread nD τ).loc main_arg0) := by
  have h0 : win0_0.index t0_0 0 = 0 := rfl
  have h1 : win0_0.index t0_0 1 = 0 := rfl
  funext j
  exact congrArg (m ((c : Thread nD τ).loc main_arg0)) (show ((win0_0.blk t0_0).view.emb j) = j from by
    blk_ext <;> simp only [h0, h1, Nat.zero_mul, Nat.zero_add])

omit [FloatOps F] in
theorem in1_eq (c : Dev nD) : in1 m c = m ((c : Thread nD τ).loc main_arg1) := by
  have h0 : win0_1.index t0_0 0 = 0 := rfl
  have h1 : win0_1.index t0_0 1 = 0 := rfl
  funext j
  exact congrArg (m ((c : Thread nD τ).loc main_arg1)) (show ((win0_1.blk t0_0).view.emb j) = j from by
    blk_ext <;> simp only [h0, h1, Nat.zero_mul, Nat.zero_add])

omit [FloatOps F] in
theorem in2_eq (c : Dev nD) : in2 m c = m ((c : Thread nD τ).loc main_arg2) := by
  have h0 : win0_2.index t0_0 0 = 0 := rfl
  have h1 : win0_2.index t0_0 1 = 0 := rfl
  funext j
  exact congrArg (m ((c : Thread nD τ).loc main_arg2)) (show ((win0_2.blk t0_0).view.emb j) = j from by
    blk_ext <;> simp only [h0, h1, Nat.zero_mul, Nat.zero_add])

omit [FloatOps F] in
theorem in3_eq (c : Dev nD) : in3 m c = m ((c : Thread nD τ).loc main_arg3) := by
  have h0 : win0_3.index t0_0 0 = 0 := rfl
  have h1 : win0_3.index t0_0 1 = 0 := rfl
  have h2 : win0_3.index t0_0 2 = 0 := rfl
  funext j
  exact congrArg (m ((c : Thread nD τ).loc main_arg3)) (show ((win0_3.blk t0_0).view.emb j) = j from by
    blk_ext <;> simp only [h0, h1, h2, Nat.zero_mul, Nat.zero_add])

omit [FloatOps F] in
theorem in4_eq (c : Dev nD) : in4 m c = m ((c : Thread nD τ).loc main_arg4) := by
  have h0 : win0_4.index t0_0 0 = 0 := rfl
  have h1 : win0_4.index t0_0 1 = 0 := rfl
  funext j
  exact congrArg (m ((c : Thread nD τ).loc main_arg4)) (show ((win0_4.blk t0_0).view.emb j) = j from by
    blk_ext <;> simp only [h0, h1, Nat.zero_mul, Nat.zero_add])

/-- **The run.** From any memory with zero counters every fair execution terminates; every device's result is
    `outAt`, its argument arrays are unchanged, and every semaphore counter is zero. -/
theorem run_main : θ_run defs (onTc (τ := τ) (main (F := F))) ⟨m, fun _ => 0, ρ⟩ (fun r => (∀ c : Dev nD,
      r.2.mem ((c.tc : Thread nD τ).loc main_v1) = outAt m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c (5 : Fin 6)).trans (finalA_out m c),
      (h.1 c (0 : Fin 6)).trans ((dats m 0 c).arrAt_in (0 : Fin 6) rfl _),
      (h.1 c (1 : Fin 6)).trans ((dats m 0 c).arrAt_in (1 : Fin 6) rfl _),
      (h.1 c (2 : Fin 6)).trans ((dats m 0 c).arrAt_in (2 : Fin 6) rfl _),
      (h.1 c (3 : Fin 6)).trans ((dats m 0 c).arrAt_in (3 : Fin 6) rfl _),
      (h.1 c (4 : Fin 6)).trans ((dats m 0 c).arrAt_in (4 : Fin 6) rfl _)⟩, h.2⟩) (run_arrays m ρ)

end Cert.Exchange

end
-- ==== Proof.Frames.lean ====
/-
  The three frames: every program runs, leaves its arguments as they were, and ends with every counter at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Exchange

open Idealize.ShloMosaic Idealize.SL.Sem

attribute [local instance] Cert.Kernel.Gen.facts Cert.KernelIdeal.Gen.facts Cert.ReferenceIdeal.Gen.facts

/-- The two prints of the program have the same body, so the same table of procedures. -/
theorem table_eq : Cert.Kernel.defs₀ (F := Bits) = Cert.KernelIdeal.defs₀ (F := Bits) := by
  unfold Cert.Kernel.defs₀ Cert.KernelIdeal.defs₀
  refine congrArg Defs.onTc ?_
  funext l x
  fin_cases l
  obtain ⟨t, s⟩ := x
  rfl

theorem defs_eq : Cert.Kernel.defs (F := Bits) = Cert.KernelIdeal.defs (F := Bits) :=
  congrArg (Pipeline.defs Cert.KernelIdeal.pcfgs) table_eq

/-- The program as printed has the text of the one proved about: its run at machine floats, the values dropped. -/
theorem frame_kernel : Cert.quiescent_Kernel := fun m ρ _ => by
  rw [defs_eq]
  exact (θ_run Cert.KernelIdeal.defs _ _).mono (fun _ h => ⟨fun c => (h.1 c).2, h.2⟩) (run_main (F := Bits) m ρ)

/-- The same run at exact values. -/
theorem frame_ideal : Cert.quiescent_KernelIdeal := fun m ρ _ =>
  (θ_run Cert.KernelIdeal.defs _ _).mono (fun _ h => ⟨fun c => (h.1 c).2, h.2⟩) (run_main (F := Ideal) m ρ)

/-- The reference is a straight line of host operations and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Exchange

end
-- ==== Proof.Router.lean ====
/-
  The mathematics both programs are compared with, at the ideal values: the router's probabilities of one token, the
  gate its routing word picks out of them, and the mixture's entry.
-/
module

public import Idealize.ShloMosaic.Lib.Pointwise

@[expose] public section

set_option maxRecDepth 16384

noncomputable section

namespace Cert.Exchange

open Idealize.ShloMosaic

variable (X : (⟨2, ![256, 128]⟩ : Shape).Idx → EReal) (R : (⟨2, ![128, 32]⟩ : Shape).Idx → EReal)
  (W : (⟨3, ![32, 128, 256]⟩ : Shape).Idx → EReal) (S : (⟨2, ![128, 256]⟩ : Shape).Idx → EReal)

/-- The router's score of expert `k` for token `t`. -/
def score (t : Fin 256) (k : Fin 32) : EReal := ∑ x : Fin 128, X (ix2 t x) * R (ix2 x k)

/-- The exponential of the score less the token's largest one. -/
def weight (t : Fin 256) (k : Fin 32) : EReal :=
  Ideal.exp (score X R t k - Finset.univ.fold max (Ideal.ofBits FTy.f32 0xFF800000#32) fun x => score X R t x)

/-- The router's probability of expert `k` for token `t`. -/
def prob (t : Fin 256) (k : Fin 32) : EReal := Ideal.div (weight X R t k) (∑ x, weight X R t x)

/-- The probability the routing word `e` picks for token `t`; a word that names no expert picks `0`. -/
def gate (t : Fin 256) (e : BitVec 32) : EReal := if h : e.toNat < 32 then prob X R t ⟨e.toNat, h⟩ else 0

/-- The expert a routing word is clipped to. -/
def clip (e : BitVec 32) : Fin 32 := ⟨min e.toInt.toNat 31, by omega⟩

/-- Expert `k`'s product for token `t`, at column `f`. -/
def product (k : Fin 32) (t f : Fin 256) : EReal := ∑ x : Fin 128, X (ix2 t x) * W (ix3 k x f)

/-- The shared expert's product for token `t`, at column `f`. -/
def shared (t f : Fin 256) : EReal := ∑ x : Fin 128, X (ix2 t x) * S (ix2 x f)

/-- A word that names an expert is clipped to itself. -/
theorem clip_of_lt (e : BitVec 32) (h : e.toNat < 32) : clip e = ⟨e.toNat, h⟩ := by
  apply Fin.ext
  show min e.toInt.toNat 31 = e.toNat
  rw [BitVec.toInt_eq_toNat_of_lt (by omega)]
  omega

end Cert.Exchange

end
-- ==== Proof.Lookup.lean ====
/-
  The reference's two lookups at an index: the probability at a pair of token and expert, the expert's matrix at a
  routing word, and the test that a pair lies inside the table of probabilities.
-/
module

public import proofs.«01_k».proof.Proof.Gen.ReferenceIdeal
public import proofs.«01_k».proof.Proof.Router
public import Idealize.ShloMosaic.Lib.WordCmp

@[expose] public section

set_option maxRecDepth 16384

noncomputable section

namespace Cert.Exchange

open Cert.ReferenceIdeal Idealize.ShloMosaic Idealize.ShloMosaic.WordCmp
open Facts₀ Facts

attribute [local instance] Cert.ReferenceIdeal.Gen.facts

/-- How the table of probabilities is looked up at pairs. -/
abbrev pairDims : GatherDims S256x32 S256x2 S256 := gather_S256x32_S256x2_S256_n_01_n_n_01_1_11

/-- How the experts' matrices are looked up at routing words. -/
abbrev rowDims : GatherDims S32x128x256 S256x1 S256x128x256 := gather_S32x128x256_S256x1_S256x128x256_12_0_n_n_0_1_1128256

/-- The table of probabilities looked up at pairs: entry `t` is the one at the pair's two words, clipped. -/
theorem pair_lookup (P : FVec Ideal S256x32 .f32) (I : IVec S256x2 32) (t a : Fin 256) (b : Fin 32)
    (ha : min (I (ix2 t 0)).toInt.toNat 255 = a.val) (hb : min (I (ix2 t 1)).toInt.toNat 31 = b.val) :
    Host.gather pairDims P I (ix1 t) = P (ix2 a b) := by
  have hi (c : Fin 2) : pairDims.siIdx (ix1 t) c = ix2 t c := by
    funext q
    match q with
    | ⟨0, _⟩ => rfl
    | ⟨1, _⟩ => rfl
  have hs (c : Fin 2) : pairDims.start (ix1 t) I c = min (I (ix2 t c)).toInt.toNat (![255, 31] c) := by
    rw [← hi c]
    match c with
    | ⟨0, _⟩ => rfl
    | ⟨1, _⟩ => rfl
  refine congrArg P (funext fun q => Fin.ext ?_)
  match q with
  | ⟨0, _⟩ => exact (hs 0).trans ha
  | ⟨1, _⟩ => exact (hs 1).trans hb

/-- The experts' matrices looked up at routing words: matrix `t` is the one the word is clipped to. -/
theorem row_lookup (P : FVec Ideal S32x128x256 .f32) (I : IVec S256x1 32) (t : Fin 256) (x : Fin 128) (f : Fin 256) :
    Host.gather rowDims P I (ix3 t x f) = P (ix3 (clip (I (ix2 t 0))) x f) := by
  have hi (c : Fin 1) : rowDims.siIdx (ix3 t x f) c = ix2 t c := by
    funext q
    match q with
    | ⟨0, _⟩ => rfl
    | ⟨1, _⟩ => rfl
  have hs : rowDims.start (ix3 t x f) I 0 = min (I (ix2 t 0)).toInt.toNat 31 := by
    rw [← hi 0]
    rfl
  refine congrArg P (funext fun q => Fin.ext ?_)
  match q with
  | ⟨0, _⟩ => exact hs
  | ⟨1, _⟩ => exact Nat.zero_add _
  | ⟨2, _⟩ => exact Nat.zero_add _

/-- A word compared with `0` and with a bound, signed: it is at most the bound as an unsigned word. -/
theorem between (e : BitVec 32) (n : Nat) (hn : n < 2 ^ 31) :
    IntOp.andi (IntOp.cmpi .sge e 0#32) (IntOp.cmpi .sle e (BitVec.ofNat 32 n)) = BitVec.ofBool (decide (e.toNat ≤ n)) := by
  have hb : (BitVec.ofNat 32 n).toInt = n := by
    rw [BitVec.toInt_eq_toNat_of_lt (by simp; omega)]
    simp
    omega
  have h := e.isLt
  have he : e.toInt = if e.toNat < 2 ^ 31 then (e.toNat : Int) else e.toNat - 2 ^ 32 := by
    rw [BitVec.toInt_eq_toNat_cond]
    split <;> split <;> omega
  have hd : decide (e.toNat ≤ n) = (decide (0 ≤ e.toInt) && decide (e.toInt ≤ n)) := by
    rw [he, ← Bool.decide_and, decide_eq_decide]
    split <;> omega
  rw [cmpi_sge_eq, cmpi_sle_eq, hb, hd, show (0#32).toInt = 0 from rfl]
  cases decide (0 ≤ e.toInt) <;> cases decide (e.toInt ≤ n) <;> rfl

/-- The test of a pair, as the reference computes it: both words at least `0`, and at most `255` and `31`. -/
def inside (I : IVec S256x2 32) : IVec S256 1 :=
  Host.reduce IntOp.andi
    (andi (cmpi .sge I (broadcastInDim S256x2 ![] bcast_S_S256x2 (constantI S_ 32 0#32)))
      (cmpi .sle I (broadcastInDim S256x2 ![0, 1] bcast_S1x2_S256x2_0_1
        (broadcastInDim S1x2 ![1] bcast_S2_S1x2_1 (fun i => lit0 (S2.rowMajor i))))))
    (constantI S_ 1 1#1) reducesTo_S256x2_S256_d1 h_S_

/-- Three bits joined, the last of them one. -/
theorem andi_one : ∀ p q : BitVec 1, IntOp.andi p (IntOp.andi q 1#1) = IntOp.andi p q := by decide

/-- The test at entry `t` holds when both words of the pair are inside, as unsigned words. -/
theorem inside_at (I : IVec S256x2 32) (t : Fin 256) :
    inside I (ix1 t) = IntOp.andi (BitVec.ofBool (decide ((I (ix2 t 0)).toNat ≤ 255)))
      (BitVec.ofBool (decide ((I (ix2 t 1)).toNat ≤ 31))) := by
  pointwise [inside]
  have e0 : lit0 (S2.rowMajor (ix1 0)) = BitVec.ofNat 32 255 := rfl
  have e1 : lit0 (S2.rowMajor (ix1 1)) = BitVec.ofNat 32 31 := rfl
  rw [show (Finset.univ : Finset (Fin 2)) = {0, 1} from rfl, Finset.fold_insert (by decide), Finset.fold_singleton,
    e0, e1, between _ 255 (by omega), between _ 31 (by omega), andi_one]

end Cert.Exchange

end
-- ==== Proof.Reference.lean ====
/-
  What the reference computes at an index: the shared expert's product plus the gate times the product of the expert
  the routing word is clipped to.
-/
module

public import proofs.«01_k».proof.Proof.Lookup

@[expose] public section

set_option maxRecDepth 16384

noncomputable section

namespace Cert.Exchange

open Cert.ReferenceIdeal Idealize.ShloMosaic
open Facts₀ Facts

attribute [local instance] Cert.ReferenceIdeal.Gen.facts

variable (X : FVec Ideal S256x128 .bf16) (R : FVec Ideal S128x32 .bf16) (E : IVec S256x1 32)
  (W : FVec Ideal S32x128x256 .bf16) (S : FVec Ideal S128x256 .bf16)

/-- The routing words as one column. -/
def column : IVec S256x1 32 :=
  broadcastInDim S256x1 ![0] bcast_S256_S256x1_0 (shapeCast _ E shapeCasts_S256x1_S256)

/-- Each token's number beside its routing word. -/
def pairs : IVec S256x2 32 :=
  concatenate S256x2 1 [⟨S256x1, broadcastInDim S256x1 ![0] bcast_S256_S256x1_0 (iotaInDim S256 32 0)⟩, ⟨S256x1, column E⟩]
    concatenates_S256x1_S256x1_S256x2_d1

/-- The router's scores. -/
def refScores : FVec Ideal S256x32 .f32 :=
  Host.dotGeneral dot_S256x128_S128x32_S256x32_1_0_0_1_n_n none (extf .f32 X bitsLt_bf16_f32) (extf .f32 R bitsLt_bf16_f32)

/-- The exponentials of the scores less each token's largest. -/
def refWeights : FVec Ideal S256x32 .f32 :=
  Host.exp (subf (refScores X R) (broadcastInDim S256x32 ![0, 1] bcast_S256x1_S256x32_0_1
    (broadcastInDim S256x1 ![0] bcast_S256_S256x1_0
      (Host.reduce FloatOps.maximumf (refScores X R) (constant S_ .f32 0xFF800000#32) reducesTo_S256x32_S256_d1 h_S_))))

/-- The router's probabilities. -/
def refProbs : FVec Ideal S256x32 .f32 :=
  Host.divf (refWeights X R) (broadcastInDim S256x32 ![0, 1] bcast_S256x1_S256x32_0_1
    (broadcastInDim S256x1 ![0] bcast_S256_S256x1_0
      (Host.reduceAdd (refWeights X R) (constant S_ .f32 0x00000000#32) reducesTo_S256x32_S256_d1 h_S_)))

/-- The probability each token's routing word picks. -/
def refGate : FVec Ideal S256 .f32 :=
  select (inside (pairs E)) (Host.gather pairDims (refProbs X R) (pairs E))
    (broadcastInDim S256 ![] bcast_S_S256 (constant S_ .f32 0x00000000#32))

/-- Each token's product with the matrix of its expert. -/
def refProduct : FVec Ideal S256x256 .f32 :=
  Host.dotGeneral dot_S256x128_S256x128x256_S256x256_1_1_n_2_0_0 none (extf .f32 X bitsLt_bf16_f32)
    (Host.gather rowDims (extf .f32 W bitsLt_bf16_f32) (column E))

/-- The reference's result. -/
def refOut : FVec Ideal S256x256 .f32 :=
  addf (Host.dotGeneral dot_S256x128_S128x256_S256x256_1_0_0_1_n_n none (extf .f32 X bitsLt_bf16_f32) (extf .f32 S bitsLt_bf16_f32))
    (mulf (broadcastInDim S256x256 ![0, 1] bcast_S256x1_S256x256_0_1
      (broadcastInDim S256x1 ![0] bcast_S256_S256x1_0 (refGate X R E))) (refProduct X E W))

/-- The column holds the routing words. -/
theorem column_at (t : Fin 256) : column E (ix2 t 0) = E (ix2 t 0) := by pointwise [column]

/-- The first of a pair is the token's number. -/
theorem pairs_fst (t : Fin 256) : pairs E (ix2 t 0) = BitVec.ofNat 32 t.val := by pointwise [pairs]

/-- The second of a pair is the token's routing word. -/
theorem pairs_snd (t : Fin 256) : pairs E (ix2 t 1) = E (ix2 t 0) := by pointwise [pairs, column]

/-- The reference's exponentials are the mathematical ones. -/
theorem refWeights_at (t : Fin 256) (k : Fin 32) : refWeights X R (ix2 t k) = weight X R t k := by
  pointwise [refWeights, refScores]
  rfl

/-- The reference's probabilities are the mathematical ones. -/
theorem refProbs_at (t : Fin 256) (k : Fin 32) : refProbs X R (ix2 t k) = prob X R t k := by
  pointwise [refProbs, refWeights_at]
  rfl

/-- The reference's gate is the mathematical one. -/
theorem refGate_at (t : Fin 256) : refGate X R E (ix1 t) = gate X R t (E (ix2 t 0)) := by
  have ht := t.isLt
  have hn : (BitVec.ofNat 32 t.val).toNat = t.val := by
    rw [BitVec.toNat_ofNat, Nat.mod_eq_of_lt (by omega)]
  have hi : (BitVec.ofNat 32 t.val).toInt = t.val := by
    rw [BitVec.toInt_eq_toNat_of_lt (by omega), hn]
  show Scalar.select (inside (pairs E) (ix1 t)) (Host.gather _ (refProbs X R) (pairs E) (ix1 t)) (Ideal.ofBits .f32 0#32) = _
  rw [pair_lookup (refProbs X R) (pairs E) t t (clip (E (ix2 t 0)))
    (by rw [pairs_fst, hi]; omega) (by rw [pairs_snd]; rfl), inside_at, pairs_fst, pairs_snd, hn, refProbs_at,
    decide_eq_true (show t.val ≤ 255 by omega)]
  unfold gate
  by_cases h : (E (ix2 t 0)).toNat < 32
  · rw [dif_pos h, decide_eq_true (show (E (ix2 t 0)).toNat ≤ 31 by omega), clip_of_lt _ h]
    rfl
  · rw [dif_neg h, decide_eq_false (show ¬(E (ix2 t 0)).toNat ≤ 31 by omega)]
    exact Ideal.ofBits_zero_f32

/-- The reference's product is that of the expert the routing word is clipped to. -/
theorem refProduct_at (t f : Fin 256) : refProduct X E W (ix2 t f) = product X W (clip (E (ix2 t 0))) t f := by
  pointwise [refProduct, row_lookup, column_at]
  rfl

/-- The reference's result at an index. -/
theorem refOut_at (t f : Fin 256) :
    refOut X R E W S (ix2 t f) = shared X S t f + gate X R t (E (ix2 t 0)) * product X W (clip (E (ix2 t 0))) t f := by
  pointwise [refOut, refGate_at, refProduct_at]
  rfl

end Cert.Exchange

end
-- ==== Proof.Mixture.lean ====
/-
  The sum over the devices: each device contributes its two experts' products, each kept only where the routing word
  names it; over all sixteen devices exactly one of them is left, that of the expert the word names.
-/
module

public import proofs.«01_k».proof.Proof.Router
public import Idealize.ShloMosaic.Lib.WordCmp

@[expose] public section

noncomputable section

namespace Cert.Exchange

open Idealize.ShloMosaic Idealize.ShloMosaic.WordCmp

variable (X : (⟨2, ![256, 128]⟩ : Shape).Idx → EReal) (R : (⟨2, ![128, 32]⟩ : Shape).Idx → EReal)
  (W : (⟨3, ![32, 128, 256]⟩ : Shape).Idx → EReal)

/-- One where the routing word `e` is the number `n`, zero elsewhere. -/
def mask (e : BitVec 32) (n : ℕ) : EReal := if e.toNat = n then 1 else 0

/-- The first and the second expert of device `s`. -/
def even (s : Fin 16) : Fin 32 := ⟨2 * s.val, by omega⟩
def odd (s : Fin 16) : Fin 32 := ⟨2 * s.val + 1, by omega⟩

/-- Device `s`'s contribution to token `t` at column `f`. -/
def part (s : Fin 16) (t f : Fin 256) (e : BitVec 32) : EReal :=
  gate X R t e * (mask e (even s).val * product X W (even s) t f + mask e (odd s).val * product X W (odd s) t f)

/-- A word that names neither expert of the device gets nothing from it. -/
theorem part_zero (s : Fin 16) (t f : Fin 256) (e : BitVec 32) (h0 : e.toNat ≠ (even s).val) (h1 : e.toNat ≠ (odd s).val) :
    part X R W s t f e = 0 := by
  simp only [part, mask, if_neg h0, if_neg h1, zero_mul, add_zero, mul_zero]

/-- A word that names the device's first expert gets its product alone, -/
theorem part_even (s : Fin 16) (t f : Fin 256) (e : BitVec 32) (h : e.toNat = (even s).val) :
    part X R W s t f e = gate X R t e * product X W (even s) t f := by
  have h1 : e.toNat ≠ (odd s).val := by
    rw [h]
    exact Nat.ne_of_lt (Nat.lt_succ_self _)
  simp only [part, mask, if_pos h, if_neg h1, zero_mul, one_mul, add_zero]

/-- and one that names the second gets that one's. -/
theorem part_odd (s : Fin 16) (t f : Fin 256) (e : BitVec 32) (h : e.toNat = (odd s).val) :
    part X R W s t f e = gate X R t e * product X W (odd s) t f := by
  have h0 : e.toNat ≠ (even s).val := by
    rw [h]
    exact Nat.ne_of_gt (Nat.lt_succ_self _)
  simp only [part, mask, if_pos h, if_neg h0, zero_mul, one_mul, zero_add]

/-- The sixteen contributions add up to the gate times the routed expert's product. -/
theorem sum_part (t f : Fin 256) (e : BitVec 32) :
    ∑ s : Fin 16, part X R W s t f e = gate X R t e * product X W (clip e) t f := by
  by_cases h : e.toNat < 32
  · rw [clip_of_lt e h, Finset.sum_eq_single (⟨e.toNat / 2, by omega⟩ : Fin 16)]
    · rcases Nat.mod_two_eq_zero_or_one e.toNat with hm | hm
      · have he : e.toNat = (even ⟨e.toNat / 2, by omega⟩).val := by
          show e.toNat = 2 * (e.toNat / 2)
          omega
        rw [part_even X R W _ t f e he]
        exact congrArg (fun k => gate X R t e * product X W k t f) (Fin.ext he.symm)
      · have he : e.toNat = (odd ⟨e.toNat / 2, by omega⟩).val := by
          show e.toNat = 2 * (e.toNat / 2) + 1
          omega
        rw [part_odd X R W _ t f e he]
        exact congrArg (fun k => gate X R t e * product X W k t f) (Fin.ext he.symm)
    · intro s _ hs
      have hs' : s.val ≠ e.toNat / 2 := fun q => hs (Fin.ext q)
      refine part_zero X R W s t f e ?_ ?_
      · show e.toNat ≠ 2 * s.val
        omega
      · show e.toNat ≠ 2 * s.val + 1
        omega
    · exact fun q => absurd (Finset.mem_univ _) q
  · have hg : gate X R t e = 0 := dif_neg h
    rw [hg, zero_mul]
    refine Finset.sum_eq_zero fun s _ => ?_
    rw [part, hg, zero_mul]

/-- The gate as the kernel computes it: the sum of the probabilities kept where the expert's number is the word. -/
theorem sum_select (t : Fin 256) (e : BitVec 32) :
    ∑ k : Fin 32, Scalar.select (IntOp.cmpi .eq (BitVec.ofNat 32 k.val) e) (prob X R t k) 0 = gate X R t e := by
  have hk (k : Fin 32) : Scalar.select (IntOp.cmpi .eq (BitVec.ofNat 32 k.val) e) (prob X R t k) 0
      = if k.val = e.toNat then prob X R t k else 0 := by
    have hn : (BitVec.ofNat 32 k.val).toNat = k.val := by
      rw [BitVec.toNat_ofNat, Nat.mod_eq_of_lt (by omega)]
    rw [cmpi_eq_eq_toNat, hn]
    by_cases h : k.val = e.toNat
    · rw [decide_eq_true h, if_pos h]
      rfl
    · rw [decide_eq_false h, if_neg h]
      rfl
  simp only [hk]
  unfold gate
  by_cases h : e.toNat < 32
  · rw [dif_pos h, Finset.sum_eq_single (⟨e.toNat, h⟩ : Fin 32) (fun k _ q => if_neg fun hv => q (Fin.ext hv))
      (fun q => absurd (Finset.mem_univ _) q), if_pos rfl]
  · rw [dif_neg h]
    exact Finset.sum_eq_zero fun k _ => if_neg (by omega)

/-- A comparison's bit, widened and converted to a float, is the mask. -/
theorem mask_of_bit (e w : BitVec 32) (n : ℕ) (hw : w.toNat = n) :
    (FloatOps.sitofp .f32 (BitVec.setWidth 32 (IntOp.cmpi .eq e w)) : Ideal .f32) = mask e n := by
  rw [cmpi_eq_eq_toNat, hw]
  unfold mask
  by_cases h : e.toNat = n
  · rw [decide_eq_true h, if_pos h]
    show (((BitVec.setWidth 32 (BitVec.ofBool true)).toInt : ℝ) : EReal) = 1
    rw [show (BitVec.setWidth 32 (BitVec.ofBool true)).toInt = 1 from rfl]
    simp
  · rw [decide_eq_false h, if_neg h]
    show (((BitVec.setWidth 32 (BitVec.ofBool false)).toInt : ℝ) : EReal) = 0
    rw [show (BitVec.setWidth 32 (BitVec.ofBool false)).toInt = 0 from rfl]
    simp

end Cert.Exchange

end
-- ==== Proof.Result.lean ====
/-
  What the kernel computes at an index: what each device sends, and the sum each device stores.
-/
module

public import proofs.«01_k».proof.Proof.Run
public import proofs.«01_k».proof.Proof.Mixture
public import Idealize.ShloMosaic.Lib.Layout

@[expose] public section

set_option maxRecDepth 16384

noncomputable section

namespace Cert.Exchange

open Cert.KernelIdeal Cert.KernelIdeal.Gen Idealize.ShloMosaic

variable (X : FVec Ideal S256x128 .bf16) (R : FVec Ideal S128x32 .bf16) (E : IVec S256x1 32)
  (W : (⟨3, ![32, 128, 256]⟩ : Shape).Idx → EReal) (S : FVec Ideal S128x256 .bf16)

/-- Device `s`'s experts: its block of the sixteen the array is cut into. -/
def experts (s : Fin 16) : FVec Ideal S2x128x256 .bf16 := Layout.block ⟨3, ![2, 128, 256]⟩ ⟨3, ![32, 128, 256]⟩ 0 16 s W

/-- Token number `16 j + i`, row `i` of slot `j`. -/
def token (j i : Fin 16) : Fin 256 := ⟨j.val * 16 + i.val, by omega⟩

/-- The kernel's exponentials are the mathematical ones. -/
theorem weights_at (t : Fin 256) (k : Fin 32) : k0_pay2 (F := Ideal) X R (ix2 t k) = weight X R t k := by
  pointwise [k0_pay2, k0_pay1]
  rfl

/-- The two words a device compares the routing words with are its experts' numbers. -/
theorem even_word (s : Dev nD) : (Scalar.muli 2#32 (vD s)).toNat = (even s).val := by revert s; decide
theorem odd_word (s : Dev nD) : (Scalar.addi (Scalar.muli 2#32 (vD s)) 1#32).toNat = (odd s).val := by revert s; decide

/-- The first matrix of device `s`'s block is its first expert's, -/
theorem expert0_at (s : Fin 16) (x : Fin 128) (f : Fin 256) :
    expert0 (F := Ideal) (experts W s) (ix3 0 x f) = W (ix3 (even s) x f) := by
  refine congrArg W (funext fun a => Fin.ext ?_)
  match a with
  | ⟨0, _⟩ => exact (Nat.mul_comm _ _)
  | ⟨1, _⟩ => exact (by omega : 0 + 1 * x.val = x.val)
  | ⟨2, _⟩ => exact (by omega : 0 + 1 * f.val = f.val)

/-- and the second its second expert's. -/
theorem expert1_at (s : Fin 16) (x : Fin 128) (f : Fin 256) :
    expert1 (F := Ideal) (experts W s) (ix3 0 x f) = W (ix3 (odd s) x f) := by
  refine congrArg W (funext fun a => Fin.ext ?_)
  match a with
  | ⟨0, _⟩ => exact (congrArg (· + 1) (Nat.mul_comm _ _))
  | ⟨1, _⟩ => exact (by omega : 0 + 1 * x.val = x.val)
  | ⟨2, _⟩ => exact (by omega : 0 + 1 * f.val = f.val)

/-- The rows of the tokens device `c` keeps are those of slot `c`. -/
theorem ownRows_at (c : Fin 16) (i : Fin 16) (x : Fin 128) :
    ownRows (F := Ideal) c X (ix2 i x) = X (ix2 (token c i) x) := by
  have h : k0_off34 c 0 = c.val * 16 := by revert c; decide
  refine congrArg X (funext fun a => Fin.ext ?_)
  match a with
  | ⟨0, _⟩ =>
    show k0_off34 c 0 + 1 * i.val = c.val * 16 + i.val
    rw [h, Nat.one_mul]
  | ⟨1, _⟩ => exact (by omega : 0 + 1 * x.val = x.val)

/-- What device `s` computes for row `i` of slot `j` is its contribution to that token. -/
theorem chunk_at (s : Dev nD) (j i : Fin 16) (f : Fin 256) :
    k0_pay3 (F := Ideal) (vD s) (k0_pay1 X) (k0_pay2 X R) E (expert0 (experts W s)) (expert1 (experts W s)) (ix3 j i f)
      = part X R W s (token j i) f (E (ix2 (token j i) 0)) := by
  pointwise [k0_pay3, k0_pay1, weights_at]
  rw [mask_of_bit _ _ _ (even_word s), mask_of_bit _ _ _ (odd_word s)]
  simp only [expert0_at, expert1_at]
  rw [part, ← sum_select]
  rfl

/-- The sum device `c` stores at row `i`: the shared expert's product and the sixteen contributions. -/
theorem stored_at (G : Dev nD → FVec Ideal S16x16x256 .bf16) (c : Dev nD) (i : Fin 16) (f : Fin 256) :
    k0_pay6 (F := Ideal) (k0_pay5 (ownRows c X) S) (received G c) (ix2 i f)
      = ∑ s : Fin 16, G s (ix3 c i f) + shared X S (token c i) f := by
  pointwise [k0_pay6, k0_pay5]
  simp only [ownRows_at]
  refine congrArg₂ (· + ·) (Finset.sum_congr rfl fun s _ => congrArg (G s) (funext fun a => ?_)) rfl
  match a with
  | ⟨0, _⟩ => rfl
  | ⟨1, _⟩ => rfl
  | ⟨2, _⟩ => rfl

end Cert.Exchange

end
-- ==== Proof.Value.lean ====
/-
  The equation: every device's rows of the kernel's result are its block of the reference's result.
-/
module

public import proofs.«01_k».proof.Proof.Frames
public import proofs.«01_k».proof.Proof.Reference
public import proofs.«01_k».proof.Proof.Result

@[expose] public section

set_option maxRecDepth 16384

noncomputable section

namespace Cert.Exchange

open Idealize.ShloMosaic Idealize.SL.Sem
open Cert.KernelIdeal (nD τ sig main_arg0 main_arg1 main_arg2 main_arg3 main_arg4)

attribute [local instance] Cert.Kernel.Gen.facts Cert.KernelIdeal.Gen.facts Cert.ReferenceIdeal.Gen.facts

/-- What device `c` stores, from memories holding copies and blocks of whole arrays, is block `c` of the reference's
    result on those arrays. -/
theorem outAt_eq (m : (ℓ : Loc nD τ sig) → Buf (Elt Ideal) ℓ)
    (X : FVec Ideal Cert.ReferenceIdeal.S256x128 .bf16) (R : FVec Ideal Cert.ReferenceIdeal.S128x32 .bf16)
    (E : IVec Cert.ReferenceIdeal.S256x1 32) (W : FVec Ideal Cert.ReferenceIdeal.S32x128x256 .bf16)
    (S : FVec Ideal Cert.ReferenceIdeal.S128x256 .bf16)
    (h0 : ∀ c : Dev nD, m ((c.tc : Thread nD τ).loc main_arg0) = X)
    (h1 : ∀ c : Dev nD, m ((c.tc : Thread nD τ).loc main_arg1) = R)
    (h2 : ∀ c : Dev nD, m ((c.tc : Thread nD τ).loc main_arg2) = E)
    (h3 : ∀ c : Dev nD, m ((c.tc : Thread nD τ).loc main_arg3) = experts W c)
    (h4 : ∀ c : Dev nD, m ((c.tc : Thread nD τ).loc main_arg4) = S) (c : Dev nD) :
    outAt (F := Ideal) m c = Layout.block ⟨2, ![16, 256]⟩ ⟨2, ![256, 256]⟩ 0 16 c (refOut X R E W S) := by
  have hs (s : Dev nD) (i : Fin 16) (f : Fin 256) :
      sent (F := Ideal) m s (ix3 c i f) = part X R W s (token c i) f (E (ix2 (token c i) 0)) := by
    unfold sent
    rw [in0_eq, in1_eq, in2_eq, in3_eq, h0, h1, h2, h3]
    exact chunk_at X R E W s c i f
  funext j
  obtain ⟨i, f, rfl⟩ : ∃ (i : Fin 16) (f : Fin 256), j = ix2 i f := ⟨_, _, eq_ix2 j⟩
  have hb : (Layout.block ⟨2, ![16, 256]⟩ ⟨2, ![256, 256]⟩ 0 16 c (refOut X R E W S)) (ix2 i f)
      = refOut X R E W S (ix2 (token c i) f) := by
    refine congrArg (refOut X R E W S) (funext fun a => ?_)
    match a with
    | ⟨0, _⟩ => rfl
    | ⟨1, _⟩ => rfl
  rw [hb, refOut_at]
  unfold outAt
  rw [in0_eq, in4_eq, h0, h4]
  refine (stored_at X S (sent m) c i f).trans ?_
  have hsum (G : Dev nD → Cert.KernelIdeal.S16x16x256.Idx → EReal)
      (hG : ∀ s, G s (ix3 c i f) = part X R W s (token c i) f (E (ix2 (token c i) 0))) : ∑ s : Fin 16, G s (ix3 c i f)
      = gate X R (token c i) (E (ix2 (token c i) 0)) * product X W (clip (E (ix2 (token c i) 0))) (token c i) f :=
    (Finset.sum_congr rfl fun s _ => hG s).trans (sum_part X R W (token c i) f (E (ix2 (token c i) 0)))
  exact (congrArg (fun a : EReal => a + shared X S (token c i) f) (hsum (sent (F := Ideal) m) fun s => hs s i f)).trans (add_comm _ _)

/-- The claim about the result: both programs run, and every device ends with its block of the reference's result. -/
theorem algebraic : Cert.algebraic_KernelIdeal_ReferenceIdeal := fun m g m' g' _ h =>
  ⟨_, (θ_run Cert.KernelIdeal.defs _ _).mono
      (fun _ r c => ⟨(r.1 c).1.trans (outAt_eq m _ _ _ _ _ (fun c => (h c).1) (fun c => (h c).2.1) (fun c => (h c).2.2.1)
        (fun c => (h c).2.2.2.1) (fun c => (h c).2.2.2.2) c), (r.1 c).2⟩)
      (run_main (F := Ideal) m g),
    (θ_run Cert.ReferenceIdeal.defs _ _).mono (fun _ r => r 0) (Cert.ReferenceIdeal.Value.run (F := Ideal) m' g')⟩

end Cert.Exchange

end
-- ==== Proof.lean ====
/-
  The certificate: the facts the programs state, the frames, and what the programs compute.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Value

@[expose] public section

noncomputable section

namespace Cert.Proof

/-- Everything claimed: the three frames, that the exact reading preserves the program, and the value of its result. -/
theorem claim : Cert.Claim := ⟨Cert.Kernel.Gen.facts, Cert.KernelIdeal.Gen.facts, Cert.ReferenceIdeal.Gen.facts,
  Cert.Exchange.frame_kernel, Cert.Exchange.frame_ideal, Cert.Exchange.frame_reference, trivial,
  Cert.Exchange.algebraic⟩

end Cert.Proof

end
